-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bfloat16_range [hPre_bfloat16_range : Cert.Pre_bfloat16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bfloat16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bfloat16_range [hPre_bfloat16_range : Cert.Pre_bfloat16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bfloat16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bfloat16_range [hKernelIdeal : Cert.KernelIdeal.Facts] [hPre_bfloat16_range : Cert.Pre_bfloat16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bfloat16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bfloat16_range [hReferenceIdeal : Cert.ReferenceIdeal.Facts] [hPre_bfloat16_range : Cert.Pre_bfloat16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bfloat16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bfloat16_range [hKernelIdeal : Cert.KernelIdeal.Facts] [hReferenceIdeal : Cert.ReferenceIdeal.Facts] [hPre_bfloat16_range : Cert.Pre_bfloat16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bfloat16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bfloat16_range : Cert.Pre_bfloat16_range.Facts),
    quiescent_Kernel (hKernel := hKernel)
    ∧ quiescent_KernelIdeal (hKernelIdeal := hKernelIdeal)
    ∧ quiescent_KernelIdeal_pre_bfloat16_range (hKernelIdeal := hKernelIdeal) (hPre_bfloat16_range := hPre_bfloat16_range)
    ∧ quiescent_ReferenceIdeal (hReferenceIdeal := hReferenceIdeal)
    ∧ quiescent_ReferenceIdeal_pre_bfloat16_range (hReferenceIdeal := hReferenceIdeal) (hPre_bfloat16_range := hPre_bfloat16_range)
    ∧ preserves_Kernel_KernelIdeal
    ∧ algebraic_KernelIdeal_ReferenceIdeal_pre_bfloat16_range (hKernelIdeal := hKernelIdeal) (hReferenceIdeal := hReferenceIdeal) (hPre_bfloat16_range := hPre_bfloat16_range)
-- ==== Pre_bfloat16_range.lean ====
abbrev S6x4096x2816 : Shape := ⟨3, ![6, 4096, 2816]⟩
abbrev S2x1792x2816 : Shape := ⟨3, ![2, 1792, 2816]⟩
abbrev S2x1792 : Shape := ⟨2, ![2, 1792]⟩
abbrev S_ : Shape := ⟨0, ![]⟩

class Facts : Prop where
  bitsLt_bf16_f32 : FTy.bits .bf16 < FTy.bits .f32
  bcast_S_S6x4096x2816 : S_.BroadcastsInDim S6x4096x2816 (![] : Fin 0 → Fin S6x4096x2816.rank)
  reducesTo_S6x4096x2816_S_d0_1_2 : S6x4096x2816.ReducesTo [0, 1, 2] S_
  h_S_ : 0 < S_.numel

variable [Facts]

def fn {F : FTy → Type} [FloatOps F] (main_arg0 : FVec F S6x4096x2816 .bf16) (main_arg1 : FVec F S2x1792x2816 .fp8e4m3) (main_arg2 : FVec F S2x1792 .f32) : IVec S_ 1 :=
  let main_v0 : FVec F S6x4096x2816 .f32 := (extf .f32 · bitsLt_bf16_f32) main_arg0
  let main_v1 : FVec F S6x4096x2816 .f32 := Host.absf main_v0
  let main_cst : FVec F S_ .f32 := constant S_ .f32 0x7F7F0000#32
  let main_v2 : FVec F S6x4096x2816 .f32 := broadcastInDim S6x4096x2816 ![] bcast_S_S6x4096x2816 main_cst
  let main_v3 : IVec S6x4096x2816 1 := cmpf .ole main_v1 main_v2
  let main_cst_0 : FVec F S_ .f32 := constant S_ .f32 0x7F800000#32
  let main_v4 : FVec F S6x4096x2816 .f32 := broadcastInDim S6x4096x2816 ![] bcast_S_S6x4096x2816 main_cst_0
  let main_v5 : IVec S6x4096x2816 1 := cmpf .oeq main_v1 main_v4
  let main_v6 : IVec S6x4096x2816 1 := ori main_v3 main_v5
  let main_c : IVec S_ 1 := constantI S_ 1 1#1
  let main_v7 : IVec S_ 1 := (fun x v => Host.reduce IntOp.andi x v reducesTo_S6x4096x2816_S_d0_1_2 h_S_) main_v6 main_c
  main_v7
-- ==== Kernel.lean ====
abbrev S6x4096x2816 : Shape := ⟨3, ![6, 4096, 2816]⟩
abbrev S2x1792x2816 : Shape := ⟨3, ![2, 1792, 2816]⟩
abbrev S2x1792 : Shape := ⟨2, ![2, 1792]⟩
abbrev S24576x2816 : Shape := ⟨2, ![24576, 2816]⟩
abbrev S24576x1792 : Shape := ⟨2, ![24576, 1792]⟩
abbrev S24576x1 : Shape := ⟨2, ![24576, 1]⟩
abbrev S512x2816 : Shape := ⟨2, ![512, 2816]⟩
abbrev S512x1792 : Shape := ⟨2, ![512, 1792]⟩
abbrev S512x1 : Shape := ⟨2, ![512, 1]⟩
abbrev S512 : Shape := ⟨1, ![512]⟩
abbrev S1x255 : Shape := ⟨2, ![1, 255]⟩
abbrev S512x255 : Shape := ⟨2, ![512, 255]⟩
abbrev S1x256x2816 : Shape := ⟨3, ![1, 256, 2816]⟩
abbrev S256x2816 : Shape := ⟨2, ![256, 2816]⟩
abbrev S512x256 : Shape := ⟨2, ![512, 256]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S6x4096x2816, .bf16⟩
  | .hbm, ⟨1, _⟩ => ⟨S2x1792x2816, .fp8e4m3⟩
  | .hbm, ⟨2, _⟩ => ⟨S2x1792, .f32⟩
  | .hbm, ⟨3, _⟩ => ⟨S24576x2816, .bf16⟩
  | .hbm, ⟨4, _⟩ => ⟨S24576x1792, .bf16⟩
  | .hbm, ⟨5, _⟩ => ⟨S24576x2816, .fp8e4m3⟩
  | .hbm, ⟨6, _⟩ => ⟨S24576x1, .f32⟩
  | .local _ .vmem, ⟨0, _⟩ => ⟨S512x2816, .bf16⟩
  | .local _ .vmem, ⟨1, _⟩ => ⟨S512x2816, .bf16⟩
  | .local _ .vmem, ⟨2, _⟩ => ⟨S2x1792x2816, .fp8e4m3⟩
  | .local _ .vmem, ⟨3, _⟩ => ⟨S2x1792, .f32⟩
  | .local _ .vmem, ⟨4, _⟩ => ⟨S512x1792, .bf16⟩
  | .local _ .vmem, ⟨5, _⟩ => ⟨S512x1792, .bf16⟩
  | .local _ .vmem, ⟨6, _⟩ => ⟨S512x2816, .fp8e4m3⟩
  | .local _ .vmem, ⟨7, _⟩ => ⟨S512x2816, .fp8e4m3⟩
  | .local _ .vmem, ⟨8, _⟩ => ⟨S512x1, .f32⟩
  | .local _ .vmem, ⟨9, _⟩ => ⟨S512x1, .f32⟩
  | _, _ => ⟨S6x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1792x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S6x4096x2816 : Shape := ⟨3, ![6, 4096, 2816]⟩
abbrev S2x1792x2816 : Shape := ⟨3, ![2, 1792, 2816]⟩
abbrev S2x1792 : Shape := ⟨2, ![2, 1792]⟩
abbrev S24576x2816 : Shape := ⟨2, ![24576, 2816]⟩
abbrev S24576x1792 : Shape := ⟨2, ![24576, 1792]⟩
abbrev S24576x1 : Shape := ⟨2, ![24576, 1]⟩
abbrev S24576 : Shape := ⟨1, ![24576]⟩
abbrev S1x1792x2816 : Shape := ⟨3, ![1, 1792, 2816]⟩
abbrev S1792x2816 : Shape := ⟨2, ![1792, 2816]⟩
abbrev S1x1792 : Shape := ⟨2, ![1, 1792]⟩

abbrev nBuf : Space → Nat
  | .hbm => 7
  | .vmem => 6
  | .smem => 0
  | _ => 0

abbrev bufTy : (tb : Table) → Fin (tcTables nBuf tb) → BufTy
  | .hbm, ⟨0, _⟩ => ⟨S6x4096x2816, .bf16⟩
  | .hbm, ⟨1, _⟩ => ⟨S2x1792x2816, .fp8e4m3⟩
  | .hbm, ⟨2, _⟩ => ⟨S2x1792, .f32⟩
  | .hbm, ⟨3, _⟩ => ⟨S24576x2816, .bf16⟩
  | .hbm, ⟨4, _⟩ => ⟨S24576x1792, .bf16⟩
  | .hbm, ⟨5, _⟩ => ⟨S24576x2816, .fp8e4m3⟩
  | .hbm, ⟨6, _⟩ => ⟨S24576x1, .f32⟩
  | .local _ .vmem, ⟨0, _⟩ => ⟨S24576x2816, .bf16⟩
  | .local _ .vmem, ⟨1, _⟩ => ⟨S2x1792x2816, .fp8e4m3⟩
  | .local _ .vmem, ⟨2, _⟩ => ⟨S2x1792, .f32⟩
  | .local _ .vmem, ⟨3, _⟩ => ⟨S24576x1792, .bf16⟩
  | .local _ .vmem, ⟨4, _⟩ => ⟨S24576x2816, .fp8e4m3⟩
  | .local _ .vmem, ⟨5, _⟩ => ⟨S24576x1, .f32⟩
  | _, _ => ⟨S6x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1792x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  THE POWER-OF-TWO SCALE OF ONE ROW, as a scalar computation over the extended reals.

  The kernel finds the exponent of `v` (the row's largest magnitude times `1/448`) by counting, among the 255 bit
  patterns `k << 23`, those that denote a number at most `v`, and then writes the scale and its inverse as bit patterns.
  The reference takes `⌊log v / log 2⌋ + 1` and raises two to it. `scale_eq` and `inv_eq` say that both give the same two
  numbers whenever `v` is below `2 ^ 126` or infinite.
-/
module

public import Idealize.ShloMosaic.PureOps
public import Idealize.ShloMosaic.PureOps.Ideal
public import Mathlib.Analysis.SpecialFunctions.Log.Basic
public import Mathlib.Algebra.Order.Archimedean.Basic

@[expose] public section

noncomputable section

namespace Cert.Gated

open Idealize.ShloMosaic

/-! ## Bit patterns -/

/-- The pattern whose exponent field is `k` and whose other bits are zero, for `k < 256`. -/
abbrev word (k : Nat) : BitVec 32 := IntOp.shli .vector (BitVec.ofNat 32 k) 23#32

theorem word_fields : ∀ k : Fin 256, ((word k).extractLsb' 31 1 == 1#1) = false
    ∧ ((word k).extractLsb' 23 8).toNat = k.val ∧ ((word k).extractLsb' 0 23).toNat = 0 := by decide +kernel

/-- A power of two as `2 ^ 23` times a smaller one. -/
theorem zpow_split (z : ℤ) : (2 : ℝ) ^ (23 : ℕ) * (2 : ℝ) ^ (z - 23) = (2 : ℝ) ^ z := by
  rw [zpow_sub₀ (by norm_num : (2 : ℝ) ≠ 0)]
  field_simp

/-- A pattern with exponent field `1 ≤ k ≤ 254` and no other bit set denotes `2 ^ (k - 127)`. -/
theorem ieee_power (w : BitVec 32) (k : Nat) (hs : (w.extractLsb' (8 + 23) 1 == 1#1) = false)
    (he : (w.extractLsb' 23 8).toNat = k) (hf : (w.extractLsb' 0 23).toNat = 0) (h1 : 1 ≤ k) (h2 : k ≤ 254) :
    Ideal.ieee 8 23 w = (((2 : ℝ) ^ ((k : ℤ) - 127) : ℝ) : EReal) := by
  unfold Ideal.ieee
  simp only [hs, he, hf]
  have h3 : ¬ k = 2 ^ 8 - 1 := by omega
  have h4 : ¬ k = 0 := by omega
  rw [if_neg h3, if_neg h4]
  refine congrArg Real.toEReal ?_
  rw [← zpow_split ((k : ℤ) - 127)]
  norm_num

theorem word_eq (k : Nat) (h1 : 1 ≤ k) (h2 : k ≤ 254) :
    Ideal.ofBits .f32 (word k) = (((2 : ℝ) ^ ((k : ℤ) - 127) : ℝ) : EReal) :=
  have h := word_fields ⟨k, by omega⟩
  ieee_power (word k) k h.1 h.2.1 h.2.2 h1 h2

/-- The pattern with the exponent field all ones denotes `∞`. -/
theorem word_255 : Ideal.ofBits .f32 (word 255) = ⊤ := by
  obtain ⟨hs, he, hf⟩ := word_fields ⟨255, by omega⟩
  have hs' : ((word 255).extractLsb' (8 + 23) 1 == 1#1) = false := hs
  show Ideal.ieee 8 23 (word 255) = _
  unfold Ideal.ieee
  simp only [hs']
  dsimp only at he hf
  rw [he, hf]
  simp

theorem bits_two : Ideal.ofBits .f32 0x40000000#32 = ((2 : ℝ) : EReal) := by simp [Ideal.ofBits, Ideal.ieee, -EReal.coe_mul]; norm_num
theorem bits_one : Ideal.ofBits .f32 0x3F800000#32 = ((1 : ℝ) : EReal) := by simp [Ideal.ofBits, Ideal.ieee, -EReal.coe_mul]; norm_num
theorem bits_zero : Ideal.ofBits .f32 0x00000000#32 = ((0 : ℝ) : EReal) := by simp [Ideal.ofBits, Ideal.ieee]
theorem bits_inf : Ideal.ofBits .f32 0x7F800000#32 = ⊤ := by simp [Ideal.ofBits, Ideal.ieee]
theorem bits_neg_inf : Ideal.ofBits .f32 0xFF800000#32 = ⊥ := by simp [Ideal.ofBits, Ideal.ieee]
theorem bits_neg_inf16 : Ideal.ofBits .bf16 0xFF80#16 = ⊥ := by simp [Ideal.ofBits, Ideal.ieee]
theorem bits_tiny : Ideal.ofBits .f32 0x00800000#32 = (((2 : ℝ) ^ (-126 : ℤ) : ℝ) : EReal) := by
  have h := word_eq 1 (by omega) (by omega)
  rw [show word 1 = 0x00800000#32 by decide] at h
  rw [h]; norm_num
/-- The two spellings of `448`, and of `-448`. -/
theorem bits_hi : Ideal.ofBits .bf16 0x43E0#16 = Ideal.ofBits .f32 0x43E00000#32 := by
  simp [Ideal.ofBits, Ideal.ieee, -EReal.coe_mul]; norm_num
theorem bits_lo : Ideal.ofBits .bf16 0xC3E0#16 = Ideal.ofBits .f32 0xC3E00000#32 := by
  simp [Ideal.ofBits, Ideal.ieee, -EReal.coe_mul]; norm_num

/-! ## The kernel's scale -/

/-- How many of the 255 thresholds are at most `v`. -/
def field (v : EReal) : Nat := (Finset.univ.filter fun j : Fin 255 => Ideal.ofBits .f32 (word (j.val + 1)) ≤ v).card

/-- The kernel's exponent from the field: `0` at `0` and `255`, else the field less 126. -/
abbrev expK (f : BitVec 32) : BitVec 32 :=
  Scalar.select (IntOp.andi (IntOp.cmpi .ne f 0#32) (IntOp.cmpi .ne f 255#32)) (IntOp.subi f 126#32) 0#32

/-- The kernel's scale and inverse scale as bit patterns, from the field. -/
abbrev scaleWord (f : BitVec 32) : BitVec 32 := IntOp.shli .vector (IntOp.addi (expK f) 127#32) 23#32
abbrev invWord (f : BitVec 32) : BitVec 32 := IntOp.shli .vector (IntOp.addi (IntOp.subi 0#32 (expK f)) 127#32) 23#32

theorem scaleWord_eq : ∀ b : Fin 253, b.val ≠ 0 → scaleWord (BitVec.ofNat 32 b.val) = word (b.val + 1)
    ∧ invWord (BitVec.ofNat 32 b.val) = word (253 - b.val) := by decide +kernel

theorem scaleWord_zero : scaleWord 0#32 = word 127 ∧ invWord 0#32 = word 127 := by decide
theorem scaleWord_255 : scaleWord 255#32 = word 127 ∧ invWord 255#32 = word 127 := by decide

/-! ## The reference's scale -/

/-- The reference's exponent. -/
abbrev expR (v : EReal) : EReal :=
  Scalar.select (IntOp.andi (Ideal.cmp .oge v (Ideal.ofBits .f32 0x00800000#32)) (Ideal.cmp .olt v (Ideal.ofBits .f32 0x7F800000#32)))
    (Ideal.liftRound Int.floor (Ideal.div (Ideal.log v) (Ideal.log (Ideal.ofBits .f32 0x40000000#32))) + Ideal.ofBits .f32 0x3F800000#32)
    (Ideal.ofBits .f32 0x00000000#32)

abbrev scaleR (v : EReal) : EReal := Ideal.pow (Ideal.ofBits .f32 0x40000000#32) (expR v)
abbrev invR (v : EReal) : EReal := Ideal.pow (Ideal.ofBits .f32 0x40000000#32) (Ideal.ofBits .f32 0x00000000#32 - expR v)

/-! ## They agree -/

theorem field_le (v : EReal) : field v ≤ 255 := by
  unfold field
  exact (Finset.card_filter_le _ _).trans (by simp)

/-- Below the least normal number no threshold is reached. -/
theorem field_small (v : EReal) (h : v < (((2 : ℝ) ^ (-126 : ℤ) : ℝ) : EReal)) : field v = 0 := by
  unfold field
  rw [Finset.card_eq_zero, Finset.filter_eq_empty_iff]
  intro j _ hj
  refine absurd (lt_of_le_of_lt hj h) (not_lt.2 ?_)
  by_cases h254 : j.val = 254
  · rw [h254, word_255]; exact le_top
  · rw [word_eq _ (by omega) (by have := j.isLt; omega)]
    refine EReal.coe_le_coe_iff.2 (zpow_le_zpow_right₀ (by norm_num) ?_)
    push_cast; omega

/-- At infinity every threshold is. -/
theorem field_top : field ⊤ = 255 := by
  unfold field
  rw [Finset.filter_true_of_mem (fun _ _ => le_top)]; simp

/-- In between, the field is `z + 127` where `2 ^ z ≤ r < 2 ^ (z + 1)`. -/
theorem field_real (r : ℝ) (z : ℤ) (h1 : (2 : ℝ) ^ z ≤ r) (h2 : r < (2 : ℝ) ^ (z + 1)) (hlo : -126 ≤ z) (hhi : z < 127) :
    (field r : ℤ) = z + 127 := by
  obtain ⟨n, hn⟩ : ∃ n : ℕ, z + 127 = n := ⟨(z + 127).toNat, by omega⟩
  have key : ∀ j : Fin 255, Ideal.ofBits .f32 (word (j.val + 1)) ≤ (r : EReal) ↔ j.val < n := by
    intro j
    by_cases h254 : j.val = 254
    · rw [h254, word_255]
      exact ⟨fun h => absurd (lt_of_le_of_lt h (EReal.coe_lt_top r)) (lt_irrefl _), fun h => by omega⟩
    · rw [word_eq _ (by omega) (by have := j.isLt; omega), EReal.coe_le_coe_iff]
      constructor
      · intro h
        have := (zpow_lt_zpow_iff_right₀ (by norm_num : (1 : ℝ) < 2)).1 (lt_of_le_of_lt h h2)
        push_cast at this; omega
      · intro h
        refine le_trans (zpow_le_zpow_right₀ (by norm_num) ?_) h1
        push_cast; omega
  unfold field
  rw [Finset.filter_congr (fun j _ => key j), hn]
  have : (Finset.univ.filter fun j : Fin 255 => j.val < n) = (Finset.univ : Finset (Fin n)).map
      ⟨fun k => ⟨k.val, by have := k.isLt; omega⟩, fun a b h => Fin.ext (Fin.mk.inj h)⟩ := by
    ext j
    simp only [Finset.mem_filter, Finset.mem_univ, true_and, Finset.mem_map, Function.Embedding.coeFn_mk]
    exact ⟨fun h => ⟨⟨j.val, h⟩, rfl⟩, fun ⟨k, hk⟩ => by rw [← hk]; exact k.isLt⟩
  rw [this, Finset.card_map, Finset.card_univ, Fintype.card_fin]

theorem word_127 : Ideal.ofBits .f32 (word 127) = ((1 : ℝ) : EReal) := by
  rw [word_eq 127 (by omega) (by omega)]; norm_num

theorem two_pow_zero : Ideal.pow (Ideal.ofBits .f32 0x40000000#32) ((0 : ℝ) : EReal) = ((1 : ℝ) : EReal) := by
  rw [bits_two, Ideal.pow_coe_coe]; norm_num

/-- Out of the normal range the reference's exponent is zero. -/
theorem expR_out (v : EReal) (h : v < (((2 : ℝ) ^ (-126 : ℤ) : ℝ) : EReal) ∨ v = ⊤) : expR v = ((0 : ℝ) : EReal) := by
  unfold expR
  rw [bits_tiny, bits_inf, bits_zero]
  have : IntOp.andi (Ideal.cmp .oge v (((2 : ℝ) ^ (-126 : ℤ) : ℝ) : EReal)) (Ideal.cmp .olt v ⊤) = 0#1 := by
    rcases h with h | h
    · simp only [Ideal.cmp, IntOp.andi, not_le.2 h, decide_false]
      exact BitVec.zero_and
    · simp [Ideal.cmp, IntOp.andi, h]
  rw [this]; rfl

/-- The floor of the binary logarithm of a real between `2 ^ z` and `2 ^ (z + 1)` is `z`. -/
theorem floor_log (r : ℝ) (z : ℤ) (h1 : (2 : ℝ) ^ z ≤ r) (h2 : r < (2 : ℝ) ^ (z + 1)) :
    ⌊Real.log r * (1 / Real.log 2)⌋ = z := by
  have hr : 0 < r := lt_of_lt_of_le (by positivity) h1
  have hl2 : 0 < Real.log 2 := Real.log_pos (by norm_num)
  rw [Int.floor_eq_iff, mul_one_div, le_div_iff₀ hl2, div_lt_iff₀ hl2]
  constructor
  · rw [← Real.log_zpow]; exact Real.log_le_log (by positivity) h1
  · have := Real.log_lt_log hr h2
    rw [Real.log_zpow] at this
    push_cast at this; exact this

/-- In it, the exponent is `z + 1`. -/
theorem expR_real (r : ℝ) (z : ℤ) (h1 : (2 : ℝ) ^ z ≤ r) (h2 : r < (2 : ℝ) ^ (z + 1)) (hlo : -126 ≤ z) :
    expR r = (((z + 1 : ℤ) : ℝ) : EReal) := by
  have hr : 0 < r := lt_of_lt_of_le (by positivity) h1
  have h0 : (2 : ℝ) ^ (-126 : ℤ) ≤ r := le_trans (zpow_le_zpow_right₀ (by norm_num) hlo) h1
  unfold expR
  rw [bits_tiny, bits_inf, bits_two, bits_one]
  have : IntOp.andi (Ideal.cmp .oge (r : EReal) (((2 : ℝ) ^ (-126 : ℤ) : ℝ) : EReal)) (Ideal.cmp .olt (r : EReal) ⊤) = 1#1 := by
    simp only [Ideal.cmp, IntOp.andi, EReal.coe_le_coe_iff, h0, EReal.coe_lt_top, decide_true]
    rfl
  have hl2 : (Real.log 2 : ℝ) ≠ 0 := (Real.log_pos (by norm_num)).ne'
  rw [this]
  show Ideal.liftRound Int.floor (Ideal.div (Ideal.log (r : EReal)) (Ideal.log ((2 : ℝ) : EReal))) + ((1 : ℝ) : EReal) = _
  rw [Ideal.log_coe, Ideal.log_coe, if_neg (not_le.2 hr), if_neg (by norm_num), Ideal.div_coe hl2, ← EReal.coe_mul]
  show (((⌊Real.log r * (1 / Real.log 2)⌋ : ℤ) : ℝ) : EReal) + ((1 : ℝ) : EReal) = _
  rw [floor_log r z h1 h2, ← EReal.coe_add]; push_cast; rfl

/-- Two to an integer. -/
theorem two_pow (z : ℤ) : Ideal.pow (Ideal.ofBits .f32 0x40000000#32) ((z : ℝ) : EReal) = (((2 : ℝ) ^ z : ℝ) : EReal) := by
  rw [bits_two, Ideal.pow_coe_coe]
  exact congrArg _ (Real.rpow_intCast 2 z)

/-- THE SCALES AGREE: both of the kernel's patterns denote the reference's powers of two. -/
theorem scale_eq (v : EReal) (h : v < (((2 : ℝ) ^ (126 : ℤ) : ℝ) : EReal) ∨ v = ⊤) :
    Ideal.ofBits .f32 (scaleWord (BitVec.ofNat 32 (field v))) = scaleR v
    ∧ Ideal.ofBits .f32 (invWord (BitVec.ofNat 32 (field v))) = invR v := by
  have out : expR v = ((0 : ℝ) : EReal) → scaleR v = ((1 : ℝ) : EReal) ∧ invR v = ((1 : ℝ) : EReal) := by
    intro he
    unfold scaleR invR
    rw [he, bits_zero, ← EReal.coe_sub, sub_zero]
    exact ⟨two_pow_zero, two_pow_zero⟩
  by_cases hs : v < (((2 : ℝ) ^ (-126 : ℤ) : ℝ) : EReal)
  · obtain ⟨e1, e2⟩ := out (expR_out v (.inl hs))
    rw [e1, e2, field_small v hs, scaleWord_zero.1, scaleWord_zero.2]
    exact ⟨word_127, word_127⟩
  · rcases h with h | h
    · induction v with
      | bot => exact absurd (EReal.bot_lt_coe _) hs
      | top => exact absurd h (not_lt.2 le_top)
      | coe r =>
        have h1 : (2 : ℝ) ^ (-126 : ℤ) ≤ r := EReal.coe_le_coe_iff.1 (not_lt.1 hs)
        have h2 : r < (2 : ℝ) ^ (126 : ℤ) := EReal.coe_lt_coe_iff.1 h
        have hr : 0 < r := lt_of_lt_of_le (by positivity) h1
        obtain ⟨z, hz1, hz2⟩ := exists_mem_Ico_zpow hr (by norm_num : (1 : ℝ) < 2)
        have two : (1 : ℝ) < 2 := by norm_num
        have hlo : -126 ≤ z := by
          have := (zpow_lt_zpow_iff_right₀ two).1 (lt_of_le_of_lt h1 hz2); omega
        have hhi : z < 126 := (zpow_lt_zpow_iff_right₀ two).1 (lt_of_le_of_lt hz1 h2)
        have hf := field_real r z hz1 hz2 hlo (by omega)
        obtain ⟨w1, w2⟩ := scaleWord_eq ⟨field r, by omega⟩ (by dsimp only; omega)
        dsimp only at w1 w2
        rw [w1, w2, word_eq _ (by omega) (by omega), word_eq _ (by omega) (by omega)]
        unfold scaleR invR
        rw [expR_real r z hz1 hz2 hlo, bits_zero, ← EReal.coe_sub, ← Int.cast_zero, ← Int.cast_sub, two_pow, two_pow]
        constructor
        · congr 2; push_cast; omega
        · congr 2; omega
    · obtain ⟨e1, e2⟩ := out (expR_out v (.inr h))
      rw [e1, e2, h, field_top]
      exact ⟨(congrArg _ scaleWord_255.1).trans word_127, (congrArg _ scaleWord_255.2).trans word_127⟩

/-- The largest magnitude times `1/448`, for a magnitude that a bfloat16 can hold, is below `2 ^ 126` or infinite. -/
theorem scaled_bound (a : EReal) (h : a ≤ Ideal.ofBits .f32 0x7F7F0000#32 ∨ a = ⊤) :
    a * Ideal.ofBits .f32 0x3B124925#32 < (((2 : ℝ) ^ (126 : ℤ) : ℝ) : EReal) ∨ a * Ideal.ofBits .f32 0x3B124925#32 = ⊤ := by
  have hb : Ideal.ofBits .f32 0x7F7F0000#32 = ((16711680 * 2 ^ (104 : ℤ) : ℝ) : EReal) := by
    simp [Ideal.ofBits, Ideal.ieee, -EReal.coe_mul]
  have hc : Ideal.ofBits .f32 0x3B124925#32 = ((9586981 * 2 ^ (-32 : ℤ) : ℝ) : EReal) := by
    simp [Ideal.ofBits, Ideal.ieee, -EReal.coe_mul]
  rw [hb] at h
  rw [hc]
  rcases h with h | h
  · left
    refine lt_of_le_of_lt (mul_le_mul_of_nonneg_right h (EReal.coe_nonneg.2 (by positivity))) ?_
    rw [← EReal.coe_mul, EReal.coe_lt_coe_iff]
    norm_num
  · right
    rw [h]
    exact EReal.top_mul_coe_of_pos (by positivity)

end Cert.Gated

end
-- ==== Proof.Row.lean ====
/-
  ONE ROW OF THE RESULT, as mathematics over the extended reals, and how the vector operations that both programs use read
  at a row and a column.

  `scale`, `code` and `out` are what one row of activations gives: its power-of-two scale, its clipped codes, and one
  entry of the gated product. The lemmas below them read a row maximum, a count along a row, a column or a row spread over
  a matrix, and a product against a transposed right operand, for any number of rows and columns.
-/
module

public import proofs.«01_k».proof.Proof.Scale
public import Idealize.ShloMosaic.Lib.ValueIdx
public import Idealize.ShloMosaic.Lib.MatmulPlain
public import Idealize.ShloMosaic.Lib.WordSum
public import Idealize.ShloMosaic.Lib.Pointwise.Reduce
public import Idealize.ShloMosaic.Lib.Pipeline.Value

@[expose] public section

noncomputable section

namespace Cert.Gated

open Idealize.ShloMosaic hiding ix1 ix2 ix3
open Idealize.ShloMosaic.ValueIdx

/-! ## The row functions -/

variable {K : Nat}

/-- The largest magnitude in a row. -/
def amax (row : Fin K → EReal) : EReal := Finset.univ.fold max ⊥ fun k => max (row k) (-(row k))

/-- The number whose exponent sets the scale. -/
def scaled (row : Fin K → EReal) : EReal := amax row * Ideal.ofBits .f32 0x3B124925#32

/-- The row's scale. -/
def scale (row : Fin K → EReal) : EReal := scaleR (scaled row)

/-- The row's code at position `k`: the entry times the inverse scale, clipped to `[-448, 448]`. -/
def code (row : Fin K → EReal) (k : Fin K) : EReal :=
  min (Ideal.ofBits .f32 0x43E00000#32) (max (Ideal.ofBits .f32 0xC3E00000#32) (row k * invR (scaled row)))

/-- The codes against one weight row, rescaled by both scales. -/
def half (row w : Fin K → EReal) (s : EReal) : EReal :=
  (Ideal.ofBits .f32 0x00000000#32 + ∑ k, code row k * w k) * scale row * s

/-- One entry of the result. -/
def out (row w0 w1 : Fin K → EReal) (s0 s1 : EReal) : EReal :=
  half row w0 s0 * Ideal.logistic (half row w0 s0) * half row w1 s1

/-- What the precondition gives of a row: the scaled maximum is below `2 ^ 126` or infinite. -/
def Fits (row : Fin K → EReal) : Prop := scaled row < (((2 : ℝ) ^ (126 : ℤ) : ℝ) : EReal) ∨ scaled row = ⊤

/-- A row each of whose magnitudes a bfloat16 can hold fits. -/
theorem fits_of_le (row : Fin K → EReal)
    (h : ∀ k, max (row k) (-(row k)) ≤ Ideal.ofBits .f32 0x7F7F0000#32 ∨ max (row k) (-(row k)) = ⊤) : Fits row := by
  refine scaled_bound _ ?_
  by_cases ht : ∃ k, max (row k) (-(row k)) = ⊤
  · obtain ⟨k, hk⟩ := ht
    right
    refine top_le_iff.1 ?_
    rw [← hk]
    exact (Finset.le_fold_max _).2 (.inr ⟨k, Finset.mem_univ _, le_rfl⟩)
  · left
    refine (Finset.fold_max_le _).2 ⟨bot_le, fun k _ => ?_⟩
    exact (h k).resolve_right fun hk => ht ⟨k, hk⟩

/-! ## The vector operations at an index -/

section Ops

variable {M N : Nat} {φ ψ : FTy}

/-- A maximum of magnitudes along the rows of a matrix. -/
theorem rowMax_apply (x : FVec Ideal ⟨2, ![M, K]⟩ φ) (acc : BitVec φ.bits)
    (h : (⟨2, ![M, K]⟩ : Shape).Reduces [1] ⟨1, ![M]⟩) (hφ : FKind.Formats φ) (hacc : acc = FKind.maximumf.neutral φ hφ)
    (hb : Ideal.ofBits φ acc = ⊥) (r : Fin M) :
    multiReduction .maximumf [1] ⟨1, ![M]⟩ (absf x) acc h hφ hacc (ix1 r) = amax fun k => x (ix2 r k) := by
  rw [multiReduction_maximumf_eq_fold, Shape.Reduces.fold_fiber_r2_a1]
  show Finset.univ.fold max (Ideal.ofBits φ acc) _ = _
  rw [hb]
  rfl

/-- A count of set bits along the rows of a matrix of bits 255 wide. -/
theorem rowCount_apply (x : IVec ⟨2, ![M, 255]⟩ 1) (h : (⟨2, ![M, 255]⟩ : Shape).Reduces [1] ⟨1, ![M]⟩)
    (hlt : 1 < 32) (hacc : (0#32 : BitVec 32) = IKind.add.neutral) (r : Fin M) :
    multiReductionI .add [1] ⟨1, ![M]⟩ (extui 32 x hlt) 0#32 h hacc (ix1 r)
      = BitVec.ofNat 32 (Finset.univ.filter fun j : Fin 255 => x (ix2 r j) = 1#1).card := by
  have hs : ∑ i ∈ Finset.univ.filter (fun i => h.drop i = ix1 r), (extui 32 x hlt i).toNat
      = (Finset.univ.filter fun j : Fin 255 => x (ix2 r j) = 1#1).card := by
    rw [Shape.Reduces.sum_fiber_r2_a1, Finset.card_filter]
    refine Finset.sum_congr rfl fun j _ => ?_
    have key : ∀ b : BitVec 1, (b.setWidth 32).toNat = if b = 1#1 then 1 else 0 := by decide
    exact key _
  have hle : (Finset.univ.filter fun j : Fin 255 => x (ix2 r j) = 1#1).card ≤ 255 :=
    (Finset.card_filter_le _ _).trans (by simp)
  refine BitVec.eq_of_toNat_eq ?_
  rw [WordSum.toNat_multiReductionI_add _ h hacc (ix1 r) (by rw [hs]; omega), hs, BitVec.toNat_ofNat, Nat.mod_eq_of_lt (by omega)]

/-- A vector as a column. -/
theorem column_apply {α : Type} (x : (⟨1, ![M]⟩ : Shape).Idx → α) (h : (⟨1, ![M]⟩ : Shape).ShapeCasts ⟨2, ![M, 1]⟩) (r : Fin M)
    (z : Fin 1) : shapeCast ⟨2, ![M, 1]⟩ x h (ix2 r z) = x (ix1 r) := by
  refine shapeCast_apply _ _ _ _ ?_
  rw [Shape.rowMajor_val_one, Shape.rowMajor_val_two]
  show r.val = r.val * 1 + z.val
  omega

/-- A column spread over a matrix. -/
theorem spreadColumn_apply {α : Type} (x : (⟨2, ![M, 1]⟩ : Shape).Idx → α) (h : (⟨2, ![M, 1]⟩ : Shape).Broadcasts ⟨2, ![M, N]⟩)
    (r : Fin M) (c : Fin N) : broadcastTo ⟨2, ![M, N]⟩ x h (ix2 r c) = x (ix2 r 0) := by
  refine broadcastTo_apply _ _ _ _ fun a => ?_
  match a with
  | ⟨0, _⟩ =>
    show r.val = if M = 1 then 0 else r.val
    split
    · have := r.isLt; omega
    · rfl
  | ⟨1, _⟩ => show 0 = if (1 : Nat) = 1 then 0 else c.val; rw [if_pos rfl]

/-- A row spread over a matrix. -/
theorem spreadRow_apply {α : Type} (x : (⟨2, ![1, N]⟩ : Shape).Idx → α) (h : (⟨2, ![1, N]⟩ : Shape).Broadcasts ⟨2, ![M, N]⟩)
    (r : Fin M) (c : Fin N) : broadcastTo ⟨2, ![M, N]⟩ x h (ix2 r c) = x (ix2 0 c) := by
  refine broadcastTo_apply _ _ _ _ fun a => ?_
  match a with
  | ⟨0, _⟩ => show 0 = if (1 : Nat) = 1 then 0 else r.val; rw [if_pos rfl]
  | ⟨1, _⟩ =>
    show c.val = if N = 1 then 0 else c.val
    split
    · have := c.isLt; omega
    · rfl

/-- A stack of one matrix as that matrix. -/
theorem unstack_apply {α : Type} (x : (⟨3, ![1, N, K]⟩ : Shape).Idx → α)
    (h : (⟨3, ![1, N, K]⟩ : Shape).ShapeCasts ⟨2, ![N, K]⟩) (c : Fin N) (k : Fin K) :
    shapeCast ⟨2, ![N, K]⟩ x h (ix2 c k) = x (ix3 0 c k) := by
  refine shapeCast_apply _ _ _ _ ?_
  rw [Shape.rowMajor_val_three, Shape.rowMajor_val_two]
  show (0 * N + c.val) * K + k.val = c.val * K + k.val
  rw [Nat.zero_mul, Nat.zero_add]

/-! ## The stages of both programs -/

/-- The number whose exponent sets the scale, from a matrix of activations. -/
theorem scaled_apply (x : FVec Ideal ⟨2, ![M, K]⟩ φ) (acc : BitVec φ.bits) (h : (⟨2, ![M, K]⟩ : Shape).Reduces [1] ⟨1, ![M]⟩)
    (hφ : FKind.Formats φ) (hacc : acc = FKind.maximumf.neutral φ hφ) (hc : (⟨1, ![M]⟩ : Shape).ShapeCasts ⟨2, ![M, 1]⟩)
    (hb : Ideal.ofBits φ acc = ⊥) (r : Fin M) :
    shapeCast ⟨2, ![M, 1]⟩ (multiReduction .maximumf [1] ⟨1, ![M]⟩ (absf x) acc h hφ hacc) hc (ix2 r 0) * Ideal.ofBits .f32 0x3B124925#32
      = scaled fun k => x (ix2 r k) := by
  rw [column_apply, rowMax_apply x acc h hφ hacc hb r]
  rfl

/-- The field, from the column of those numbers. -/
theorem field_apply (v : FVec Ideal ⟨2, ![M, 1]⟩ .f32) (hi : (⟨2, ![1, 255]⟩ : Shape).Iotas .tc 32 [1])
    (h1 : (⟨2, ![M, 1]⟩ : Shape).Broadcasts ⟨2, ![M, 255]⟩) (h2 : (⟨2, ![1, 255]⟩ : Shape).Broadcasts ⟨2, ![M, 255]⟩) (hlt : 1 < 32)
    (h : (⟨2, ![M, 255]⟩ : Shape).Reduces [1] ⟨1, ![M]⟩) (hacc : (0#32 : BitVec 32) = IKind.add.neutral)
    (hc : (⟨1, ![M]⟩ : Shape).ShapeCasts ⟨2, ![M, 1]⟩) (r : Fin M) :
    shapeCast ⟨2, ![M, 1]⟩ (multiReductionI .add [1] ⟨1, ![M]⟩ (extui 32 (cmpf .oge (broadcastTo ⟨2, ![M, 255]⟩ v h1)
      (broadcastTo ⟨2, ![M, 255]⟩ (bitcastToFloat (F := Ideal) .f32 (shli (addi (iota .tc ⟨2, ![1, 255]⟩ 32 [1] hi)
        (broadcast ⟨2, ![1, 255]⟩ 1#32)) (broadcast ⟨2, ![1, 255]⟩ 23#32))) h2)) hlt) 0#32 h hacc) hc (ix2 r 0)
      = BitVec.ofNat 32 (field (v (ix2 r 0))) := by
  rw [column_apply, rowCount_apply]
  refine congrArg (BitVec.ofNat 32) (congrArg Finset.card (Finset.filter_congr fun j _ => ?_))
  rw [cmpf_apply, spreadColumn_apply, spreadRow_apply]
  show BitVec.ofBool (decide (Ideal.ofBits .f32 (IntOp.shli .vector (IntOp.addi (iota .tc ⟨2, ![1, 255]⟩ 32 [1] hi (ix2 0 j)) 1#32) 23#32)
    ≤ v (ix2 r 0))) = 1#1 ↔ _
  have e : ∀ j : Fin 255, IntOp.addi (BitVec.ofNat 32 j.val) 1#32 = BitVec.ofNat 32 (j.val + 1) := by decide +kernel
  rw [iota_single_apply, show IntOp.addi (BitVec.ofNat 32 ((ix2 (0 : Fin 1) j : (⟨2, ![1, 255]⟩ : Shape).Idx) 1).val) 1#32 = _ from e j]
  by_cases hle : Ideal.ofBits .f32 (word (j.val + 1)) ≤ v (ix2 r 0) <;> simp [hle]

/-- The codes against one stack of weight rows, rescaled. -/
theorem half_apply (a : FVec Ideal ⟨2, ![M, K]⟩ φ) (w : FVec Ideal ⟨3, ![1, N, K]⟩ ψ) (sc : FVec Ideal ⟨2, ![M, 1]⟩ .f32)
    (s : FVec Ideal ⟨2, ![1, N]⟩ .f32) (hc : (⟨3, ![1, N, K]⟩ : Shape).ShapeCasts ⟨2, ![N, K]⟩)
    (h1 : (⟨2, ![M, 1]⟩ : Shape).Broadcasts ⟨2, ![M, N]⟩) (h2 : (⟨2, ![1, N]⟩ : Shape).Broadcasts ⟨2, ![M, N]⟩) (r : Fin M) (c : Fin N)
    (row : Fin K → EReal) (hs : sc (ix2 r 0) = scale row) (ha : ∀ k, a (ix2 r k) = code row k) :
    mulf (mulf (matmul (DotDims.transposedRhs M K N) none a (shapeCast ⟨2, ![N, K]⟩ w hc : FVec Ideal ⟨2, ![N, K]⟩ ψ)
      (constant (F := Ideal) ⟨2, ![M, N]⟩ .f32 0x00000000#32)) (broadcastTo ⟨2, ![M, N]⟩ sc h1)) (broadcastTo ⟨2, ![M, N]⟩ s h2) (ix2 r c)
      = half row (fun k => w (ix3 0 c k)) (s (ix2 0 c)) := by
  rw [mulf_apply, mulf_apply, spreadColumn_apply, spreadRow_apply, hs]
  have e := Ideal.matmul_transposedRhs_apply none a (shapeCast ⟨2, ![N, K]⟩ w hc : FVec Ideal ⟨2, ![N, K]⟩ ψ)
    (constant (F := Ideal) ⟨2, ![M, N]⟩ .f32 0x00000000#32) r c
  refine congrArg (· * scale row * s (ix2 0 c)) (e.trans ?_)
  refine congrArg (Ideal.ofBits .f32 0x00000000#32 + ·) (Finset.sum_congr rfl fun k _ => ?_)
  rw [unstack_apply, ha]

/-- The gate and the product. -/
theorem out_apply (g u : FVec Ideal ⟨2, ![M, N]⟩ .f32) (hb : FTy.bits .bf16 < FTy.bits .f32) (r : Fin M) (c : Fin N) (row w0 w1 : Fin K → EReal) (s0 s1 : EReal)
    (hg : g (ix2 r c) = half row w0 s0) (hu : u (ix2 r c) = half row w1 s1) :
    (truncf .bf16 (mulf (mulf g (logistic g)) u) hb : FVec Ideal ⟨2, ![M, N]⟩ .bf16) (ix2 r c) = out row w0 w1 s0 s1 := by
  unfold out
  rw [← hg, ← hu]
  rfl

end Ops

end Cert.Gated

end
-- ==== Proof.Block.lean ====
/-
  WHAT ONE GRID POINT OF THE KERNEL COMPUTES, from the block of 512 rows of activations, the weights and the weight scales
  that it loads: each row's scale, codes and products are the row functions of `Row.lean`. The seven column groups of the
  products are one expression at seven offsets.
-/
module

public import proofs.«01_k».proof.Proof.Row
public import proofs.«01_k».proof.Proof.Gen.KernelIdeal.Frame

@[expose] public section

noncomputable section

namespace Cert.Gated.KernelBlock

open Cert.KernelIdeal Cert.KernelIdeal.Gen Cert.Gated
open Idealize.ShloMosaic hiding ix1 ix2 ix3
open Idealize.ShloMosaic.ValueIdx

/-- Row `r` of a block of activations. -/
abbrev rowOf (x : Vec Ideal S512x2816 .bf16) (r : Fin 512) : Fin 2816 → EReal := fun k => x (ix2 r k)

theorem pay2_eq (x : Vec Ideal S512x2816 .bf16) : k0_pay2 x = x := shapeCast_self x shapeCasts_S512x2816_S512x2816

/-- The number whose exponent is taken, as a column. -/
def scaledCol (x : FVec Ideal S512x2816 .bf16) : FVec Ideal S512x1 .f32 :=
  mulf (extf .f32 (shapeCast S512x1 (multiReduction .maximumf [1] S512 (absf x) 0xFF80#16 reduces_S512x2816_S512 (.inr rfl) rfl)
    shapeCasts_S512_S512x1) bitsLt_bf16_f32) (broadcast S512x1 (Scalar.ofBits .f32 0x3B124925#32))

theorem scaledCol_apply (x : FVec Ideal S512x2816 .bf16) (r : Fin 512) : scaledCol x (ix2 r 0) = scaled (rowOf x r) := by
  unfold scaledCol
  rw [mulf_apply, extf_apply, broadcast_apply]
  exact scaled_apply x 0xFF80#16 reduces_S512x2816_S512 (.inr rfl) rfl shapeCasts_S512_S512x1 bits_neg_inf16 r

/-- The field, as a column of words. -/
def fieldCol (v : FVec Ideal S512x1 .f32) : IVec S512x1 32 :=
  shapeCast S512x1 (multiReductionI .add [1] S512 (extui 32 (cmpf .oge (broadcastTo S512x255 v broadcasts_S512x1_S512x255)
    (broadcastTo S512x255 (bitcastToFloat (F := Ideal) .f32 (shli (addi (iota .tc S1x255 32 [1] iota_S1x255_d1_w32) (broadcast S1x255 1#32))
      (broadcast S1x255 23#32))) broadcasts_S1x255_S512x255)) natLt_1_32) 0#32 reduces_S512x255_S512 rfl) shapeCasts_S512_S512x1

theorem fieldCol_apply (v : FVec Ideal S512x1 .f32) (r : Fin 512) : fieldCol v (ix2 r 0) = BitVec.ofNat 32 (field (v (ix2 r 0))) :=
  field_apply v iota_S1x255_d1_w32 broadcasts_S512x1_S512x255 broadcasts_S1x255_S512x255 natLt_1_32 reduces_S512x255_S512 rfl
    shapeCasts_S512_S512x1 r

/-- The exponents, as a column of words. -/
theorem pay3_eq (x : Vec Ideal S512x2816 .bf16) :
    k0_pay3 x = select (andi (cmpi .ne (fieldCol (scaledCol (k0_pay2 x))) (broadcast S512x1 0#32))
      (cmpi .ne (fieldCol (scaledCol (k0_pay2 x))) (broadcast S512x1 255#32))) (subi (fieldCol (scaledCol (k0_pay2 x))) (broadcast S512x1 126#32))
      (broadcast S512x1 0#32) := rfl

theorem pay3_apply (x : Vec Ideal S512x2816 .bf16) (r : Fin 512) :
    k0_pay3 x (ix2 r 0) = expK (BitVec.ofNat 32 (field (scaled (rowOf x r)))) := by
  rw [pay3_eq, pay2_eq, ← scaledCol_apply, ← fieldCol_apply]
  rfl

/-- The scale the kernel writes. -/
theorem scaleCol_apply (x : Vec Ideal S512x2816 .bf16) (r : Fin 512) (hx : Fits (rowOf x r)) :
    k0_pay4 x (ix2 r 0) = scale (rowOf x r) := by
  refine Eq.trans ?_ (scale_eq _ hx).1
  exact congrArg (fun e => Ideal.ofBits .f32 (IntOp.shli .vector (IntOp.addi e 127#32) 23#32)) (pay3_apply x r)

/-- The inverse scale, spread over the row. -/
theorem pay5_eq (x : Vec Ideal S512x2816 .bf16) :
    k0_pay5 x = broadcastTo S512x2816 (truncf .bf16 (bitcastToFloat .f32 (shli (addi (subi (broadcast S512x1 0#32) (k0_pay3 x))
      (broadcast S512x1 127#32)) (broadcast S512x1 23#32))) bitsLt_bf16_f32 : FVec Ideal S512x1 .bf16) broadcasts_S512x1_S512x2816 := rfl

theorem invMat_apply (x : Vec Ideal S512x2816 .bf16) (r : Fin 512) (k : Fin 2816) (hx : Fits (rowOf x r)) :
    k0_pay5 x (ix2 r k) = invR (scaled (rowOf x r)) := by
  rw [pay5_eq]
  refine (spreadColumn_apply _ broadcasts_S512x1_S512x2816 r k).trans (Eq.trans ?_ (scale_eq _ hx).2)
  exact congrArg (fun e => Ideal.ofBits .f32 (IntOp.shli .vector (IntOp.addi (IntOp.subi 0#32 e) 127#32) 23#32)) (pay3_apply x r)

/-- The codes the kernel writes. -/
theorem pay6_apply (x y : FVec Ideal S512x2816 .bf16) (i : S512x2816.Idx) :
    k0_pay6 x y i = min (Ideal.ofBits .bf16 0x43E0#16) (max (Ideal.ofBits .bf16 0xC3E0#16) (x i * y i)) := rfl

theorem codes_apply (x : Vec Ideal S512x2816 .bf16) (r : Fin 512) (k : Fin 2816) (hx : Fits (rowOf x r)) :
    k0_pay6 (k0_pay2 x) (k0_pay5 x) (ix2 r k) = code (rowOf x r) k := by
  rw [pay6_apply, invMat_apply x r k hx, bits_hi, bits_lo, pay2_eq]
  rfl

/-- The codes against 256 weight rows, rescaled. -/
def halfMat (s : FVec Ideal S512x1 .f32) (a : FVec Ideal S512x2816 .fp8e4m3) (w : Vec Ideal S1x256x2816 .fp8e4m3) (t : Vec Ideal S1x256 .f32) :
    FVec Ideal S512x256 .f32 :=
  mulf (mulf (matmul dot_S512x2816_S256x2816_S512x256_1_1_0_0_n_n none a
    (shapeCast S256x2816 w shapeCasts_S1x256x2816_S256x2816 : FVec Ideal S256x2816 .fp8e4m3)
    (constant (F := Ideal) S512x256 .f32 0x00000000#32)) (broadcastTo S512x256 s broadcasts_S512x1_S512x256))
    (broadcastTo S512x256 t broadcasts_S1x256_S512x256)

/-- A column group of the result, from the scale, the codes, two groups of weight rows and their scales. -/
def group (s : FVec Ideal S512x1 .f32) (a : FVec Ideal S512x2816 .fp8e4m3) (w0 w1 : Vec Ideal S1x256x2816 .fp8e4m3)
    (s0 s1 : Vec Ideal S1x256 .f32) : FVec Ideal S512x256 .bf16 :=
  truncf .bf16 (mulf (mulf (halfMat s a w0 s0) (logistic (halfMat s a w0 s0))) (halfMat s a w1 s1)) bitsLt_bf16_f32

theorem dot_eq : dot_S512x2816_S256x2816_S512x256_1_1_0_0_n_n = DotDims.transposedRhs 512 2816 256 := rfl

theorem group_apply (x : Vec Ideal S512x2816 .bf16) (w0 w1 : Vec Ideal S1x256x2816 .fp8e4m3) (s0 s1 : Vec Ideal S1x256 .f32)
    (r : Fin 512) (c : Fin 256) (hx : Fits (rowOf x r)) :
    group (k0_pay4 x) (k0_pay6 (k0_pay2 x) (k0_pay5 x)) w0 w1 s0 s1 (ix2 r c)
      = out (rowOf x r) (fun k => w0 (ix3 0 c k)) (fun k => w1 (ix3 0 c k)) (s0 (ix2 0 c)) (s1 (ix2 0 c)) := by
  have hh : ∀ (w : Vec Ideal S1x256x2816 .fp8e4m3) (s : Vec Ideal S1x256 .f32),
      halfMat (k0_pay4 x) (k0_pay6 (k0_pay2 x) (k0_pay5 x)) w s (ix2 r c) = half (rowOf x r) (fun k => w (ix3 0 c k)) (s (ix2 0 c)) := by
    intro w s
    unfold halfMat
    rw [dot_eq]
    exact half_apply (k0_pay6 (k0_pay2 x) (k0_pay5 x)) w (k0_pay4 x) s shapeCasts_S1x256x2816_S256x2816 broadcasts_S512x1_S512x256
      broadcasts_S1x256_S512x256 r c (rowOf x r) (scaleCol_apply x r hx) (fun k => codes_apply x r k hx)
  exact out_apply _ _ bitsLt_bf16_f32 r c (rowOf x r) _ _ _ _ (hh w0 s0) (hh w1 s1)

end Cert.Gated.KernelBlock

end
-- ==== Proof.Stored.lean ====
/-
  THE THREE BLOCKS ONE GRID POINT STORES, entry by entry: block row `r`'s codes and scale, and at column `c` the gated
  product against weight rows `c` of both halves. The seven stores of the products tile the block's 1792 columns.
-/
module

public import proofs.«01_k».proof.Proof.Block

@[expose] public section

noncomputable section

namespace Cert.Gated.KernelBlock

open Cert.KernelIdeal Cert.KernelIdeal.Gen Cert.Gated
open Idealize.ShloMosaic hiding ix1 ix2 ix3
open Idealize.ShloMosaic.ValueIdx

variable (x : Vec Ideal S512x2816 .bf16) (w : Vec Ideal S2x1792x2816 .fp8e4m3) (s : Vec Ideal S2x1792 .f32)

theorem hz : (![0, 0] : Fin 2 → Nat) = fun _ => 0 := funext fun a => by fin_cases a <;> rfl

theorem ld_eq : View.ld x r0_0 = x := View.ld_unit_zero hz _ x

theorem pay18_eq : k0_pay18 x w s = k0_pay2 x := by unfold k0_pay18; rw [ld_eq]
theorem pay19_eq : k0_pay19 x w s = k0_pay4 x := by unfold k0_pay19; rw [ld_eq]
theorem pay20_eq : k0_pay20 x w s = k0_pay5 x := by unfold k0_pay20; rw [ld_eq]
theorem pay21_eq : k0_pay21 x w s = k0_pay6 (k0_pay2 x) (k0_pay5 x) := by unfold k0_pay21; rw [pay18_eq, pay20_eq]

/-- The block of codes. -/
theorem out4_apply (r : Fin 512) (k : Fin 2816) (hx : Fits (rowOf x r)) : out0_4 x w s (ix2 r k) = code (rowOf x r) k := by
  unfold out0_4
  rw [View.canon_unit_zero hz, pay18_eq, pay20_eq]
  exact codes_apply x r k hx

/-- The block of scales. -/
theorem out5_apply (r : Fin 512) (hx : Fits (rowOf x r)) : out0_5 x w s (ix2 r 0) = scale (rowOf x r) := by
  unfold out0_5
  rw [View.canon_unit_zero hz, pay19_eq]
  exact scaleCol_apply x r hx

/-- One entry of the result from the stacked weights and weight scales. -/
def entry (row : Fin 2816 → EReal) (w : Vec Ideal S2x1792x2816 .fp8e4m3) (s : Vec Ideal S2x1792 .f32) (c : Fin 1792) : EReal :=
  out row (fun k => w (ix3 0 c k)) (fun k => w (ix3 1 c k)) (s (ix2 0 c)) (s (ix2 1 c))

/-- The block of products as one function of its index. -/
def stored : S512x1792.Idx → EReal := fun y => entry (rowOf x (y 0)) w s (y 1)

/-- The column group stored at column offset `n` holds the entries of columns `n` to `n + 255`. -/
theorem piece_apply (n : Nat) (i0 : ∀ a, (![0, n, 0] : Fin 3 → Nat) a + S1x256x2816.size a ≤ S2x1792x2816.size a)
    (i1 : ∀ a, (![1, n, 0] : Fin 3 → Nat) a + S1x256x2816.size a ≤ S2x1792x2816.size a)
    (j0 : ∀ a, (![0, n] : Fin 2 → Nat) a + S1x256.size a ≤ S2x1792.size a)
    (j1 : ∀ a, (![1, n] : Fin 2 → Nat) a + S1x256.size a ≤ S2x1792.size a)
    (o : ∀ a, (![0, n] : Fin 2 → Nat) a + S512x256.size a ≤ S512x1792.size a) (hx : ∀ r, Fits (rowOf x r)) (r : Fin 512) (c : Fin 256) :
    group (k0_pay4 x) (k0_pay6 (k0_pay2 x) (k0_pay5 x)) (View.ld w (Rect.unit (s := S2x1792x2816) ![0, n, 0] S1x256x2816.size i0))
        (View.ld w (Rect.unit (s := S2x1792x2816) ![1, n, 0] S1x256x2816.size i1)) (View.ld s (Rect.unit (s := S2x1792) ![0, n] S1x256.size j0))
        (View.ld s (Rect.unit (s := S2x1792) ![1, n] S1x256.size j1)) (ix2 r c)
      = stored x w s ((Rect.unit (s := S512x1792) ![0, n] S512x256.size o).emb (ix2 r c)) := by
  have hn : n + 256 ≤ 1792 := o 1
  refine (group_apply x _ _ _ _ r c (hx r)).trans ?_
  have ey0 : ((Rect.unit (s := S512x1792) ![0, n] S512x256.size o).emb (ix2 r c)) 0 = r := Fin.ext (by
    show 0 + 1 * r.val = r.val; omega)
  have ey1 : ((Rect.unit (s := S512x1792) ![0, n] S512x256.size o).emb (ix2 r c)) 1 = (⟨n + c.val, by have := c.isLt; omega⟩ : Fin 1792) := Fin.ext (by
    show n + 1 * c.val = n + c.val; omega)
  refine Eq.trans ?_ (congrArg₂ (fun a b => entry (rowOf x a) w s b) ey0 ey1).symm
  unfold entry
  have ew0 : ∀ k, View.ld w (Rect.unit (s := S2x1792x2816) ![0, n, 0] S1x256x2816.size i0) (ix3 0 c k) = w (ix3 0 ⟨n + c.val, by have := c.isLt; omega⟩ k) := by
    intro k
    refine congrArg w (funext fun a => Fin.ext ?_)
    match a with
    | ⟨0, _⟩ => rfl
    | ⟨1, _⟩ => show n + 1 * c.val = n + c.val; omega
    | ⟨2, _⟩ => show 0 + 1 * k.val = k.val; omega
  have ew1 : ∀ k, View.ld w (Rect.unit (s := S2x1792x2816) ![1, n, 0] S1x256x2816.size i1) (ix3 0 c k) = w (ix3 1 ⟨n + c.val, by have := c.isLt; omega⟩ k) := by
    intro k
    refine congrArg w (funext fun a => Fin.ext ?_)
    match a with
    | ⟨0, _⟩ => rfl
    | ⟨1, _⟩ => show n + 1 * c.val = n + c.val; omega
    | ⟨2, _⟩ => show 0 + 1 * k.val = k.val; omega
  have es0 : View.ld s (Rect.unit (s := S2x1792) ![0, n] S1x256.size j0) (ix2 0 c) = s (ix2 0 ⟨n + c.val, by have := c.isLt; omega⟩) := by
    refine congrArg s (funext fun a => Fin.ext ?_)
    match a with
    | ⟨0, _⟩ => rfl
    | ⟨1, _⟩ => show n + 1 * c.val = n + c.val; omega
  have es1 : View.ld s (Rect.unit (s := S2x1792) ![1, n] S1x256.size j1) (ix2 0 c) = s (ix2 1 ⟨n + c.val, by have := c.isLt; omega⟩) := by
    refine congrArg s (funext fun a => Fin.ext ?_)
    match a with
    | ⟨0, _⟩ => rfl
    | ⟨1, _⟩ => show n + 1 * c.val = n + c.val; omega
  rw [es0, es1, funext ew0, funext ew1]

/-- The block of products. -/
theorem out3_apply (hx : ∀ r, Fits (rowOf x r)) (r : Fin 512) (c : Fin 1792) : out0_3 x w s (ix2 r c) = entry (rowOf x r) w s c := by
  unfold out0_3
  rw [pay18_eq, pay19_eq, pay20_eq, pay21_eq]
  refine View.canon_apply_of_pieces (Val := Elt Ideal) (e := .bf16) (stored x w s) _ ?_ (ix2 r c) (cover0_3 _ _ _ _ _ _ _ _)
  intro p hp
  simp only [List.mem_cons, List.not_mem_nil, or_false] at hp
  rcases hp with rfl | rfl | rfl | rfl | rfl | rfl | rfl
  · intro z
    rw [ValueIdx.eq_ix2 z]
    exact piece_apply x w s 1536 inb_S2x1792x2816_S1x256x2816_0_1536_0 inb_S2x1792x2816_S1x256x2816_1_1536_0 inb_S2x1792_S1x256_0_1536
      inb_S2x1792_S1x256_1_1536 inb_S512x1792_S512x256_0_1536 hx (z 0) (z 1)
  · intro z
    rw [ValueIdx.eq_ix2 z]
    exact piece_apply x w s 1280 inb_S2x1792x2816_S1x256x2816_0_1280_0 inb_S2x1792x2816_S1x256x2816_1_1280_0 inb_S2x1792_S1x256_0_1280
      inb_S2x1792_S1x256_1_1280 inb_S512x1792_S512x256_0_1280 hx (z 0) (z 1)
  · intro z
    rw [ValueIdx.eq_ix2 z]
    exact piece_apply x w s 1024 inb_S2x1792x2816_S1x256x2816_0_1024_0 inb_S2x1792x2816_S1x256x2816_1_1024_0 inb_S2x1792_S1x256_0_1024
      inb_S2x1792_S1x256_1_1024 inb_S512x1792_S512x256_0_1024 hx (z 0) (z 1)
  · intro z
    rw [ValueIdx.eq_ix2 z]
    exact piece_apply x w s 768 inb_S2x1792x2816_S1x256x2816_0_768_0 inb_S2x1792x2816_S1x256x2816_1_768_0 inb_S2x1792_S1x256_0_768
      inb_S2x1792_S1x256_1_768 inb_S512x1792_S512x256_0_768 hx (z 0) (z 1)
  · intro z
    rw [ValueIdx.eq_ix2 z]
    exact piece_apply x w s 512 inb_S2x1792x2816_S1x256x2816_0_512_0 inb_S2x1792x2816_S1x256x2816_1_512_0 inb_S2x1792_S1x256_0_512
      inb_S2x1792_S1x256_1_512 inb_S512x1792_S512x256_0_512 hx (z 0) (z 1)
  · intro z
    rw [ValueIdx.eq_ix2 z]
    exact piece_apply x w s 256 inb_S2x1792x2816_S1x256x2816_0_256_0 inb_S2x1792x2816_S1x256x2816_1_256_0 inb_S2x1792_S1x256_0_256
      inb_S2x1792_S1x256_1_256 inb_S512x1792_S512x256_0_256 hx (z 0) (z 1)
  · intro z
    rw [ValueIdx.eq_ix2 z]
    exact piece_apply x w s 0 inb_S2x1792x2816_S1x256x2816_0_0_0 inb_S2x1792x2816_S1x256x2816_1_0_0 inb_S2x1792_S1x256_0_0
      inb_S2x1792_S1x256_1_0 inb_S512x1792_S512x256_0_0 hx (z 0) (z 1)

end Cert.Gated.KernelBlock

end
-- ==== Proof.KernelRun.lean ====
/-
  THE RUN OF THE KERNEL, with each result array named, and the array of activations that its grid reads: the argument
  with its two leading axes merged.
-/
module

public import proofs.«01_k».proof.Proof.Gen.KernelIdeal.Frame
public import Idealize.ShloMosaic.Lib.Pipeline.Value

@[expose] public section

noncomputable section

namespace Cert.Gated.KernelRun

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The activations as rows. -/
abbrev acts (c : Dev nD) : Vec F S24576x2816 .bf16 :=
  shapeCast S24576x2816 (m ((c : Thread nD τ).loc main_arg0) : Vec F S6x4096x2816 .bf16) shapeCasts_S6x4096x2816_S24576x2816

/-- The reshape before the grid leaves the activations as rows. -/
theorem V_acts (c : Dev nD) : V m c main_v0 = acts m c := by
  show StableHlo.after hostOps0 (fun b => m (c, b)) (Proc.devRef .tc main_v0) = _
  rw [StableHlo.after_cons, StableHlo.after_nil, StableHlo.reshape_result]
  rfl

/-- The run, with each result array as the write-backs leave it and the arguments unchanged. -/
theorem run : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3, (h c).1 4, (h c).1 5,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Gated.KernelRun

end
-- ==== Proof.KernelArray.lean ====
/-
  WHAT THE KERNEL'S RESULT ARRAYS HOLD. Grid point `t` loads and stores rows `512 t` to `512 t + 511`; the weights and the
  weight scales are loaded whole. So every row of each result is the row function of the same row of activations.
-/
module

public import proofs.«01_k».proof.Proof.Stored
public import proofs.«01_k».proof.Proof.KernelRun
public import Idealize.ShloMosaic.Lib.Pipeline.ValueKit

@[expose] public section

noncomputable section

namespace Cert.Gated.KernelArray

open Cert.KernelIdeal Cert.KernelIdeal.Gen Cert.Gated Cert.Gated.KernelBlock Cert.Gated.KernelRun
open Idealize.ShloMosaic hiding ix1 ix2 ix3
open Idealize.ShloMosaic.TcCoe Idealize.ShloMosaic.ValueIdx Idealize.SL.Sem

variable (m : (ℓ : Loc nD τ sig) → Buf (Elt Ideal) ℓ)

/-- Row `i` of the activations. -/
abbrev row (c : Dev nD) (i : Fin 24576) : Fin 2816 → EReal := fun k => acts m c (ix2 i k)

theorem lt_rows (t : Fin cfg0.N) (r : Fin 512) : t.val * 512 + r.val < 24576 := by
  have h1 : t.val < 48 := Nat.lt_of_lt_of_eq t.isLt N_0
  have h2 := r.isLt
  omega

/-- The array row that is row `r` of point `t`'s block. -/
def rowAt (t : Fin cfg0.N) (r : Fin 512) : Fin 24576 := ⟨t.val * 512 + r.val, lt_rows t r⟩

theorem index0 : ∀ t : Fin cfg0.N, win0_0.index t = ![t.val, 0] :=
  (by decide +kernel : ∀ t : Fin grid0.N, win0_0.index t = ![t.val, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])

/-! ## Where a block's indices lie in its array -/

theorem emb0 (t : Fin cfg0.N) (r : Fin 512) (k : Fin 2816) : (win0_0.blk t).view.emb (ix2 r k) = ix2 (rowAt t r) k := by
  refine funext fun a => Fin.ext ?_
  match a with
  | ⟨0, _⟩ => show win0_0.index t 0 * 512 + 1 * r.val = t.val * 512 + r.val; rw [index0]; show t.val * 512 + 1 * r.val = _; omega
  | ⟨1, _⟩ => show win0_0.index t 1 * 2816 + 1 * k.val = k.val; rw [index0]; show 0 * 2816 + 1 * k.val = _; omega

theorem emb3 (t : Fin cfg0.N) (r : Fin 512) (k : Fin 1792) : (win0_3.blk t).view.emb (ix2 r k) = ix2 (rowAt t r) k := by
  refine funext fun a => Fin.ext ?_
  match a with
  | ⟨0, _⟩ => show win0_3.index t 0 * 512 + 1 * r.val = t.val * 512 + r.val; rw [index3]; show t.val * 512 + 1 * r.val = _; omega
  | ⟨1, _⟩ => show win0_3.index t 1 * 1792 + 1 * k.val = k.val; rw [index3]; show 0 * 1792 + 1 * k.val = _; omega

theorem emb4 (t : Fin cfg0.N) (r : Fin 512) (k : Fin 2816) : (win0_4.blk t).view.emb (ix2 r k) = ix2 (rowAt t r) k := by
  refine funext fun a => Fin.ext ?_
  match a with
  | ⟨0, _⟩ => show win0_4.index t 0 * 512 + 1 * r.val = t.val * 512 + r.val; rw [index4]; show t.val * 512 + 1 * r.val = _; omega
  | ⟨1, _⟩ => show win0_4.index t 1 * 2816 + 1 * k.val = k.val; rw [index4]; show 0 * 2816 + 1 * k.val = _; omega

theorem emb5 (t : Fin cfg0.N) (r : Fin 512) (k : Fin 1) : (win0_5.blk t).view.emb (ix2 r k) = ix2 (rowAt t r) k := by
  refine funext fun a => Fin.ext ?_
  match a with
  | ⟨0, _⟩ => show win0_5.index t 0 * 512 + 1 * r.val = t.val * 512 + r.val; rw [index5]; show t.val * 512 + 1 * r.val = _; omega
  | ⟨1, _⟩ => show win0_5.index t 1 * 1 + 1 * k.val = k.val; rw [index5]; show 0 * 1 + 1 * k.val = _; omega

theorem emb1 (t : Fin cfg0.N) (y : S2x1792x2816.Idx) : (win0_1.blk t).view.emb y = y := by
  refine funext fun a => Fin.ext ?_
  match a with
  | ⟨0, _⟩ => show win0_1.index t 0 * 2 + 1 * (y 0).val = (y 0).val; rw [index1]; show 0 * 2 + 1 * (y 0).val = _; omega
  | ⟨1, _⟩ => show win0_1.index t 1 * 1792 + 1 * (y 1).val = (y 1).val; rw [index1]; show 0 * 1792 + 1 * (y 1).val = _; omega
  | ⟨2, _⟩ => show win0_1.index t 2 * 2816 + 1 * (y 2).val = (y 2).val; rw [index1]; show 0 * 2816 + 1 * (y 2).val = _; omega

theorem emb2 (t : Fin cfg0.N) (y : S2x1792.Idx) : (win0_2.blk t).view.emb y = y := by
  refine funext fun a => Fin.ext ?_
  match a with
  | ⟨0, _⟩ => show win0_2.index t 0 * 2 + 1 * (y 0).val = (y 0).val; rw [index2]; show 0 * 2 + 1 * (y 0).val = _; omega
  | ⟨1, _⟩ => show win0_2.index t 1 * 1792 + 1 * (y 1).val = (y 1).val; rw [index2]; show 0 * 1792 + 1 * (y 1).val = _; omega

/-! ## What the blocks that a point loads hold -/

/-- Row `r` of the block of activations is row `512 t + r` of the array. -/
theorem loaded_row (c : Dev nD) (t : Fin cfg0.N) (r : Fin 512) : rowOf (iblk m c 0 t) r = row m c (rowAt t r) := by
  funext k
  show V m c main_v0 ((win0_0.blk t).view.emb (ix2 r k)) = _
  rw [emb0]
  exact congrFun (V_acts m c) _

/-- The weights are loaded whole, -/
theorem loaded_weights (c : Dev nD) (t : Fin cfg0.N) : iblk m c 1 t = m ((c : Thread nD τ).loc main_arg1) := by
  funext y
  show V m c main_arg1 ((win0_1.blk t).view.emb y) = _
  rw [emb1]
  exact congrFun (V_main_arg1 m c) _

/-- and so are their scales. -/
theorem loaded_scales (c : Dev nD) (t : Fin cfg0.N) : iblk m c 2 t = m ((c : Thread nD τ).loc main_arg2) := by
  funext y
  show V m c main_arg2 ((win0_2.blk t).view.emb y) = _
  rw [emb2]
  exact congrFun (V_main_arg2 m c) _

/-! ## The result arrays -/

/-- The products. -/
def products (c : Dev nD) : Buf (Elt Ideal) ((c : Thread nD τ).loc main_v1_0) :=
  fun i : S24576x1792.Idx => entry (row m c (i 0)) (m ((c : Thread nD τ).loc main_arg1)) (m ((c : Thread nD τ).loc main_arg2)) (i 1)

/-- The codes. -/
def codes (c : Dev nD) : Buf (Elt Ideal) ((c : Thread nD τ).loc main_v1_1) :=
  fun i : S24576x2816.Idx => code (row m c (i 0)) (i 1)

/-- The scales. -/
def scales (c : Dev nD) : Buf (Elt Ideal) ((c : Thread nD τ).loc main_v1_2) :=
  fun i : S24576x1.Idx => scale (row m c (i 0))

theorem fits_block (c : Dev nD) (t : Fin cfg0.N) (hx : ∀ i, Fits (row m c i)) (r : Fin 512) : Fits (rowOf (iblk m c 0 t) r) := by
  rw [loaded_row]
  exact hx _

theorem final_products (c : Dev nD) (hx : ∀ i, Fits (row m c i)) : (dats m 0 c).arrAt 3 cfg0.N = products m c := by
  refine (dats m 0 c).arrAt_eq_of_covers 3 _ (by decide +kernel) fun t _ y => ?_
  show (dats m 0 c).after 3 t y = products m c ((win0_3.blk t).view.emb y)
  rw [after0_3]
  obtain ⟨r, k, rfl⟩ : ∃ (r : Fin 512) (k : Fin 1792), y = ix2 r k := ⟨_, _, ValueIdx.eq_ix2 (n0 := 512) (n1 := 1792) y⟩
  rw [emb3]
  refine (out3_apply (iblk m c 0 t) (iblk m c 1 t) (iblk m c 2 t) (fits_block m c t hx) r k).trans ?_
  rw [loaded_row, loaded_weights, loaded_scales]
  rfl

theorem final_codes (c : Dev nD) (hx : ∀ i, Fits (row m c i)) : (dats m 0 c).arrAt 4 cfg0.N = codes m c := by
  refine (dats m 0 c).arrAt_eq_of_covers 4 _ (by decide +kernel) fun t _ y => ?_
  show (dats m 0 c).after 4 t y = codes m c ((win0_4.blk t).view.emb y)
  rw [after0_4]
  obtain ⟨r, k, rfl⟩ : ∃ (r : Fin 512) (k : Fin 2816), y = ix2 r k := ⟨_, _, ValueIdx.eq_ix2 (n0 := 512) (n1 := 2816) y⟩
  rw [emb4]
  refine (out4_apply (iblk m c 0 t) (iblk m c 1 t) (iblk m c 2 t) r k (fits_block m c t hx r)).trans ?_
  rw [loaded_row]
  rfl

theorem final_scales (c : Dev nD) (hx : ∀ i, Fits (row m c i)) : (dats m 0 c).arrAt 5 cfg0.N = scales m c := by
  refine (dats m 0 c).arrAt_eq_of_covers 5 _ (by decide +kernel) fun t _ y => ?_
  show (dats m 0 c).after 5 t y = scales m c ((win0_5.blk t).view.emb y)
  rw [after0_5]
  obtain ⟨r, k, rfl⟩ : ∃ (r : Fin 512) (k : Fin 1), y = ix2 r k := ⟨_, _, ValueIdx.eq_ix2 (n0 := 512) (n1 := 1) y⟩
  obtain rfl : k = 0 := Subsingleton.elim _ _
  rw [emb5]
  refine (out5_apply (iblk m c 0 t) (iblk m c 1 t) (iblk m c 2 t) r (fits_block m c t hx r)).trans ?_
  rw [loaded_row]
  rfl

end Cert.Gated.KernelArray

end
-- ==== Proof.Column.lean ====
/-
  THE REFERENCE'S EXPRESSIONS, each named as a function of whole arrays with any number of rows and columns, and read at a
  row and a column: the column of exponents, the two columns of powers of two, the codes, the rescaled products.
-/
module

public import proofs.«01_k».proof.Proof.Row

@[expose] public section

noncomputable section

namespace Cert.Gated

open Idealize.ShloMosaic hiding ix1 ix2 ix3
open Idealize.ShloMosaic.ValueIdx

variable {K M N : Nat}

/-- The exponents: one above the floor of the logarithm to base two for a normal number, zero for any other. -/
def exponents (v : FVec Ideal ⟨2, ![M, 1]⟩ .f32) : FVec Ideal ⟨2, ![M, 1]⟩ .f32 :=
  select (andi (cmpf .oge v (broadcast ⟨2, ![M, 1]⟩ (Scalar.ofBits .f32 0x00800000#32)))
      (cmpf .olt v (broadcast ⟨2, ![M, 1]⟩ (Scalar.ofBits .f32 0x7F800000#32))))
    (addf (floor (divf (log v) (log (broadcast ⟨2, ![M, 1]⟩ (Scalar.ofBits .f32 0x40000000#32) : FVec Ideal ⟨2, ![M, 1]⟩ .f32))))
      (broadcast ⟨2, ![M, 1]⟩ (Scalar.ofBits .f32 0x3F800000#32)))
    (broadcast ⟨2, ![M, 1]⟩ (Scalar.ofBits .f32 0x00000000#32))

theorem exponents_apply (v : FVec Ideal ⟨2, ![M, 1]⟩ .f32) (i : (⟨2, ![M, 1]⟩ : Shape).Idx) : exponents v i = expR (v i) := rfl

/-- Two to the exponents. -/
def powers (e : FVec Ideal ⟨2, ![M, 1]⟩ .f32) : FVec Ideal ⟨2, ![M, 1]⟩ .f32 :=
  powf (broadcast ⟨2, ![M, 1]⟩ (Scalar.ofBits .f32 0x40000000#32)) e

theorem powers_apply (e : FVec Ideal ⟨2, ![M, 1]⟩ .f32) (i : (⟨2, ![M, 1]⟩ : Shape).Idx) :
    powers e i = Ideal.pow (Ideal.ofBits .f32 0x40000000#32) (e i) := rfl

/-- Two to the opposite exponents. -/
def inverses (e : FVec Ideal ⟨2, ![M, 1]⟩ .f32) : FVec Ideal ⟨2, ![M, 1]⟩ .f32 :=
  powers (subf (broadcast ⟨2, ![M, 1]⟩ (Scalar.ofBits .f32 0x00000000#32)) e)

theorem inverses_apply (e : FVec Ideal ⟨2, ![M, 1]⟩ .f32) (i : (⟨2, ![M, 1]⟩ : Shape).Idx) :
    inverses e i = Ideal.pow (Ideal.ofBits .f32 0x40000000#32) (Ideal.ofBits .f32 0x00000000#32 - e i) := rfl

/-- The clipped products with a column of inverse scales. -/
def clipped (x : FVec Ideal ⟨2, ![M, K]⟩ .f32) (v : FVec Ideal ⟨2, ![M, 1]⟩ .f32)
    (h : (⟨2, ![M, 1]⟩ : Shape).Broadcasts ⟨2, ![M, K]⟩) (hb : FTy.bits .fp8e4m3 < FTy.bits .f32) : FVec Ideal ⟨2, ![M, K]⟩ .fp8e4m3 :=
  truncf .fp8e4m3 (minimumf (broadcast ⟨2, ![M, K]⟩ (Scalar.ofBits .f32 0x43E00000#32))
    (maximumf (broadcast ⟨2, ![M, K]⟩ (Scalar.ofBits .f32 0xC3E00000#32)) (mulf x (broadcastTo ⟨2, ![M, K]⟩ v h)))) hb

theorem clipped_apply (x : FVec Ideal ⟨2, ![M, K]⟩ .f32) (v : FVec Ideal ⟨2, ![M, 1]⟩ .f32)
    (h : (⟨2, ![M, 1]⟩ : Shape).Broadcasts ⟨2, ![M, K]⟩) (hb : FTy.bits .fp8e4m3 < FTy.bits .f32) (r : Fin M) (k : Fin K)
    (row : Fin K → EReal) (hx : ∀ k, x (ix2 r k) = row k) (hv : v (ix2 r 0) = invR (scaled row)) :
    clipped x v h hb (ix2 r k) = code row k := by
  unfold code
  rw [← hx, ← hv, ← spreadColumn_apply v h r k]
  rfl

/-- The number whose exponent is taken, as a column. -/
def scaledCol (x : FVec Ideal ⟨2, ![M, K]⟩ .f32) (h : (⟨2, ![M, K]⟩ : Shape).Reduces [1] ⟨1, ![M]⟩) (hφ : FKind.Formats .f32)
    (hacc : (0xFF800000#32 : BitVec 32) = FKind.maximumf.neutral .f32 hφ) (hc : (⟨1, ![M]⟩ : Shape).ShapeCasts ⟨2, ![M, 1]⟩) :
    FVec Ideal ⟨2, ![M, 1]⟩ .f32 :=
  mulf (shapeCast ⟨2, ![M, 1]⟩ (multiReduction .maximumf [1] ⟨1, ![M]⟩ (absf x) 0xFF800000#32 h hφ hacc) hc)
    (broadcast ⟨2, ![M, 1]⟩ (Scalar.ofBits .f32 0x3B124925#32))

theorem scaledCol_apply (x : FVec Ideal ⟨2, ![M, K]⟩ .f32) (h : (⟨2, ![M, K]⟩ : Shape).Reduces [1] ⟨1, ![M]⟩) (hφ : FKind.Formats .f32)
    (hacc : (0xFF800000#32 : BitVec 32) = FKind.maximumf.neutral .f32 hφ) (hc : (⟨1, ![M]⟩ : Shape).ShapeCasts ⟨2, ![M, 1]⟩)
    (r : Fin M) (row : Fin K → EReal) (hx : ∀ k, x (ix2 r k) = row k) : scaledCol x h hφ hacc hc (ix2 r 0) = scaled row := by
  obtain rfl : (fun k => x (ix2 r k)) = row := funext hx
  unfold scaledCol
  rw [mulf_apply, broadcast_apply]
  exact scaled_apply x 0xFF800000#32 h hφ hacc hc bits_neg_inf r

/-- The codes against the weight rows, rescaled by both scales. -/
def rescaled (a : FVec Ideal ⟨2, ![M, K]⟩ .fp8e4m3) (w : FVec Ideal ⟨3, ![1, N, K]⟩ .fp8e4m3) (sc : FVec Ideal ⟨2, ![M, 1]⟩ .f32)
    (s : FVec Ideal ⟨2, ![1, N]⟩ .f32) (d : DotDims ⟨2, ![M, K]⟩ ⟨2, ![N, K]⟩ ⟨2, ![M, N]⟩) (hc : (⟨3, ![1, N, K]⟩ : Shape).ShapeCasts ⟨2, ![N, K]⟩)
    (h1 : (⟨2, ![M, 1]⟩ : Shape).Broadcasts ⟨2, ![M, N]⟩) (h2 : (⟨2, ![1, N]⟩ : Shape).Broadcasts ⟨2, ![M, N]⟩) : FVec Ideal ⟨2, ![M, N]⟩ .f32 :=
  mulf (mulf (matmul d none a (shapeCast ⟨2, ![N, K]⟩ w hc : FVec Ideal ⟨2, ![N, K]⟩ .fp8e4m3)
    (constant (F := Ideal) ⟨2, ![M, N]⟩ .f32 0x00000000#32)) (broadcastTo ⟨2, ![M, N]⟩ sc h1)) (broadcastTo ⟨2, ![M, N]⟩ s h2)

theorem rescaled_apply (a : FVec Ideal ⟨2, ![M, K]⟩ .fp8e4m3) (w : FVec Ideal ⟨3, ![1, N, K]⟩ .fp8e4m3) (sc : FVec Ideal ⟨2, ![M, 1]⟩ .f32)
    (s : FVec Ideal ⟨2, ![1, N]⟩ .f32) (d : DotDims ⟨2, ![M, K]⟩ ⟨2, ![N, K]⟩ ⟨2, ![M, N]⟩) (hc : (⟨3, ![1, N, K]⟩ : Shape).ShapeCasts ⟨2, ![N, K]⟩)
    (h1 : (⟨2, ![M, 1]⟩ : Shape).Broadcasts ⟨2, ![M, N]⟩) (h2 : (⟨2, ![1, N]⟩ : Shape).Broadcasts ⟨2, ![M, N]⟩)
    (hd : d = DotDims.transposedRhs M K N) (r : Fin M) (c : Fin N)
    (row : Fin K → EReal) (hs : sc (ix2 r 0) = scale row) (ha : ∀ k, a (ix2 r k) = code row k) :
    rescaled a w sc s d hc h1 h2 (ix2 r c) = half row (fun k => w (ix3 0 c k)) (s (ix2 0 c)) := by
  subst hd
  exact half_apply a w sc s hc h1 h2 r c row hs ha

/-- The gated product of two rescaled products. -/
def gated (g u : FVec Ideal ⟨2, ![M, N]⟩ .f32) (hb : FTy.bits .bf16 < FTy.bits .f32) : FVec Ideal ⟨2, ![M, N]⟩ .bf16 :=
  truncf .bf16 (mulf (mulf g (logistic g)) u) hb

end Cert.Gated

end
-- ==== Proof.RefBlock.lean ====
/-
  WHAT THE REFERENCE COMPUTES, from the whole array of activations, the weights and the weight scales: row `r`'s scale,
  codes and products are the row functions of `Row.lean`.
-/
module

public import proofs.«01_k».proof.Proof.Column
public import proofs.«01_k».proof.Proof.Gen.ReferenceIdeal.Frame

@[expose] public section

noncomputable section

namespace Cert.Gated.RefBlock

open Cert.ReferenceIdeal Cert.ReferenceIdeal.Gen Cert.Gated
open Idealize.ShloMosaic hiding ix1 ix2 ix3
open Idealize.ShloMosaic.ValueIdx

variable (x : Vec Ideal S24576x2816 .bf16) (w : Vec Ideal S2x1792x2816 .fp8e4m3) (s : Vec Ideal S2x1792 .f32)

/-- Row `r` of the activations. -/
abbrev rowOf (r : Fin 24576) : Fin 2816 → EReal := fun k => x (ix2 r k)

/-- One entry of the result from the stacked weights and weight scales. -/
def entry (row : Fin 2816 → EReal) (c : Fin 1792) : EReal :=
  out row (fun k => w (ix3 0 c k)) (fun k => w (ix3 1 c k)) (s (ix2 0 c)) (s (ix2 1 c))

theorem pay2_apply (i : S24576x2816.Idx) : k0_pay2 x i = x i :=
  congrFun (shapeCast_self x shapeCasts_S24576x2816_S24576x2816) i

/-- The exponents, as a column. -/
theorem pay3_eq : k0_pay3 x = exponents (scaledCol (k0_pay2 x) reduces_S24576x2816_S24576 (.inl rfl) rfl shapeCasts_S24576_S24576x1) := rfl

theorem pay3_apply (r : Fin 24576) : k0_pay3 x (ix2 r 0) = expR (scaled (rowOf x r)) := by
  rw [pay3_eq, exponents_apply]
  exact congrArg expR (scaledCol_apply (k0_pay2 x) _ _ _ _ r (rowOf x r) fun k => pay2_apply x (ix2 r k))

/-- The column of scales. -/
theorem pay4_eq : k0_pay4 x = powers (k0_pay3 x) := rfl

theorem scaleCol_apply (r : Fin 24576) : k0_pay4 x (ix2 r 0) = scale (rowOf x r) := by
  rw [pay4_eq, powers_apply, pay3_apply]
  unfold scale
  rfl

theorem invCol_apply (r : Fin 24576) : inverses (k0_pay3 x) (ix2 r 0) = invR (scaled (rowOf x r)) := by
  rw [inverses_apply, pay3_apply]

/-- The codes. -/
theorem pay5_eq : k0_pay5 x = clipped (k0_pay2 x) (inverses (k0_pay3 x)) broadcasts_S24576x1_S24576x2816 bitsLt_fp8e4m3_f32 := rfl

theorem codes_apply (r : Fin 24576) (k : Fin 2816) : k0_pay5 x (ix2 r k) = code (rowOf x r) k := by
  rw [pay5_eq]
  exact clipped_apply _ _ _ _ r k (rowOf x r) (fun k => pay2_apply x (ix2 r k)) (invCol_apply x r)

/-- The codes against 1792 weight rows, rescaled. -/
abbrev halfMat (v : Vec Ideal S1x1792x2816 .fp8e4m3) (t : Vec Ideal S1x1792 .f32) : FVec Ideal S24576x1792 .f32 :=
  rescaled (k0_pay5 x) v (k0_pay4 x) t dot_S24576x2816_S1792x2816_S24576x1792_1_1_0_0_n_n shapeCasts_S1x1792x2816_S1792x2816
    broadcasts_S24576x1_S24576x1792 broadcasts_S1x1792_S24576x1792

theorem dot_eq : dot_S24576x2816_S1792x2816_S24576x1792_1_1_0_0_n_n = DotDims.transposedRhs 24576 2816 1792 := rfl

theorem halfMat_apply (v : Vec Ideal S1x1792x2816 .fp8e4m3) (t : Vec Ideal S1x1792 .f32) (r : Fin 24576) (c : Fin 1792) :
    halfMat x v t (ix2 r c) = half (rowOf x r) (fun k => v (ix3 0 c k)) (t (ix2 0 c)) :=
  rescaled_apply (k0_pay5 x) v (k0_pay4 x) t _ _ _ _ dot_eq r c (rowOf x r) (scaleCol_apply x r) (fun k => codes_apply x r k)

theorem pay1_eq (v0 v1 : Vec Ideal S1x1792x2816 .fp8e4m3) (t0 t1 : Vec Ideal S1x1792 .f32) :
    k0_pay1 (k0_pay4 x) (k0_pay5 x) (k0_pay6 x v0) v1 t0 t1 = gated (halfMat x v0 t0) (halfMat x v1 t1) bitsLt_bf16_f32 := rfl

theorem hz : (![0, 0] : Fin 2 → Nat) = fun _ => 0 := funext fun a => by fin_cases a <;> rfl

theorem ld_eq : View.ld x r0_0 = x := View.ld_unit_zero hz _ x

theorem pay7_eq : k0_pay7 x w s = k0_pay4 x := by unfold k0_pay7; rw [ld_eq]
theorem pay8_eq : k0_pay8 x w s = k0_pay5 x := by unfold k0_pay8; rw [ld_eq]

/-- The array of codes. -/
theorem out4_apply (r : Fin 24576) (k : Fin 2816) : out0_4 x w s (ix2 r k) = code (rowOf x r) k := by
  unfold out0_4
  rw [View.canon_unit_zero hz, pay8_eq]
  exact codes_apply x r k

/-- The array of scales. -/
theorem out5_apply (r : Fin 24576) : out0_5 x w s (ix2 r 0) = scale (rowOf x r) := by
  unfold out0_5
  rw [View.canon_unit_zero hz, pay7_eq]
  exact scaleCol_apply x r

theorem weights0 (c : Fin 1792) (k : Fin 2816) : View.ld w r0_1 (ix3 0 c k) = w (ix3 0 c k) := by
  refine congrArg w (funext fun a => Fin.ext ?_)
  match a with
  | ⟨0, _⟩ => rfl
  | ⟨1, _⟩ => show 0 + 1 * c.val = c.val; omega
  | ⟨2, _⟩ => show 0 + 1 * k.val = k.val; omega

theorem weights1 (c : Fin 1792) (k : Fin 2816) : View.ld w r0_2 (ix3 0 c k) = w (ix3 1 c k) := by
  refine congrArg w (funext fun a => Fin.ext ?_)
  match a with
  | ⟨0, _⟩ => rfl
  | ⟨1, _⟩ => show 0 + 1 * c.val = c.val; omega
  | ⟨2, _⟩ => show 0 + 1 * k.val = k.val; omega

theorem scales0 (c : Fin 1792) : View.ld s r0_3 (ix2 0 c) = s (ix2 0 c) := by
  refine congrArg s (funext fun a => Fin.ext ?_)
  match a with
  | ⟨0, _⟩ => rfl
  | ⟨1, _⟩ => show 0 + 1 * c.val = c.val; omega

theorem scales1 (c : Fin 1792) : View.ld s r0_4 (ix2 0 c) = s (ix2 1 c) := by
  refine congrArg s (funext fun a => Fin.ext ?_)
  match a with
  | ⟨0, _⟩ => rfl
  | ⟨1, _⟩ => show 0 + 1 * c.val = c.val; omega

/-- The array of products. -/
theorem out3_apply (r : Fin 24576) (c : Fin 1792) : out0_3 x w s (ix2 r c) = entry w s (rowOf x r) c := by
  unfold out0_3
  rw [View.canon_unit_zero hz, pay7_eq, pay8_eq, ld_eq, pay1_eq]
  refine (out_apply _ _ bitsLt_bf16_f32 r c (rowOf x r) _ _ _ _ (halfMat_apply x _ _ r c) (halfMat_apply x _ _ r c)).trans ?_
  unfold entry
  rw [scales0, scales1, funext (weights0 w c), funext (weights1 w c)]

end Cert.Gated.RefBlock

end
-- ==== Proof.RefRun.lean ====
/-
  THE RUN OF THE REFERENCE, with each result array named, and the array of activations that its grid reads: the argument
  with its two leading axes merged.
-/
module

public import proofs.«01_k».proof.Proof.Gen.ReferenceIdeal.Frame
public import Idealize.ShloMosaic.Lib.Pipeline.Value

@[expose] public section

noncomputable section

namespace Cert.Gated.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The activations as rows. -/
abbrev acts (c : Dev nD) : Vec F S24576x2816 .bf16 :=
  shapeCast S24576x2816 (m ((c : Thread nD τ).loc main_arg0) : Vec F S6x4096x2816 .bf16) shapeCasts_S6x4096x2816_S24576x2816

/-- The reshape before the grid leaves the activations as rows. -/
theorem V_acts (c : Dev nD) : V m c main_v0 = acts m c := by
  show StableHlo.after hostOps0 (fun b => m (c, b)) (Proc.devRef .tc main_v0) = _
  rw [StableHlo.after_cons, StableHlo.after_nil, StableHlo.reshape_result]
  rfl

/-- The run, with each result array as the write-backs leave it and the arguments unchanged. -/
theorem run : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3, (h c).1 4, (h c).1 5,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Gated.RefRun

end
-- ==== Proof.RefArray.lean ====
/-
  WHAT THE REFERENCE'S RESULT ARRAYS HOLD. It has one point, which loads and stores whole arrays. So every row of each
  result is the row function of the same row of activations.
-/
module

public import proofs.«01_k».proof.Proof.RefBlock
public import proofs.«01_k».proof.Proof.RefRun
public import Idealize.ShloMosaic.Lib.Pipeline.ValueKit

@[expose] public section

noncomputable section

namespace Cert.Gated.RefArray

open Cert.ReferenceIdeal Cert.ReferenceIdeal.Gen Cert.Gated Cert.Gated.RefBlock Cert.Gated.RefRun
open Idealize.ShloMosaic hiding ix1 ix2 ix3
open Idealize.ShloMosaic.TcCoe Idealize.ShloMosaic.ValueIdx Idealize.SL.Sem

variable (m : (ℓ : Loc nD τ sig) → Buf (Elt Ideal) ℓ)

/-- Row `i` of the activations. -/
abbrev row (c : Dev nD) (i : Fin 24576) : Fin 2816 → EReal := fun k => acts m c (ix2 i k)

theorem index0 : ∀ t : Fin cfg0.N, win0_0.index t = ![0, 0] :=
  (by decide +kernel : ∀ t : Fin grid0.N, win0_0.index t = ![0, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])

/-! ## Each window's block is its array -/

theorem emb0 (t : Fin cfg0.N) (y : S24576x2816.Idx) : (win0_0.blk t).view.emb y = y := by
  refine funext fun a => Fin.ext ?_
  match a with
  | ⟨0, _⟩ => show win0_0.index t 0 * 24576 + 1 * (y 0).val = (y 0).val; rw [index0]; show 0 * 24576 + 1 * (y 0).val = _; omega
  | ⟨1, _⟩ => show win0_0.index t 1 * 2816 + 1 * (y 1).val = (y 1).val; rw [index0]; show 0 * 2816 + 1 * (y 1).val = _; omega

theorem emb1 (t : Fin cfg0.N) (y : S2x1792x2816.Idx) : (win0_1.blk t).view.emb y = y := by
  refine funext fun a => Fin.ext ?_
  match a with
  | ⟨0, _⟩ => show win0_1.index t 0 * 2 + 1 * (y 0).val = (y 0).val; rw [index1]; show 0 * 2 + 1 * (y 0).val = _; omega
  | ⟨1, _⟩ => show win0_1.index t 1 * 1792 + 1 * (y 1).val = (y 1).val; rw [index1]; show 0 * 1792 + 1 * (y 1).val = _; omega
  | ⟨2, _⟩ => show win0_1.index t 2 * 2816 + 1 * (y 2).val = (y 2).val; rw [index1]; show 0 * 2816 + 1 * (y 2).val = _; omega

theorem emb2 (t : Fin cfg0.N) (y : S2x1792.Idx) : (win0_2.blk t).view.emb y = y := by
  refine funext fun a => Fin.ext ?_
  match a with
  | ⟨0, _⟩ => show win0_2.index t 0 * 2 + 1 * (y 0).val = (y 0).val; rw [index2]; show 0 * 2 + 1 * (y 0).val = _; omega
  | ⟨1, _⟩ => show win0_2.index t 1 * 1792 + 1 * (y 1).val = (y 1).val; rw [index2]; show 0 * 1792 + 1 * (y 1).val = _; omega

theorem emb3 (t : Fin cfg0.N) (y : S24576x1792.Idx) : (win0_3.blk t).view.emb y = y := by
  refine funext fun a => Fin.ext ?_
  match a with
  | ⟨0, _⟩ => show win0_3.index t 0 * 24576 + 1 * (y 0).val = (y 0).val; rw [index3]; show 0 * 24576 + 1 * (y 0).val = _; omega
  | ⟨1, _⟩ => show win0_3.index t 1 * 1792 + 1 * (y 1).val = (y 1).val; rw [index3]; show 0 * 1792 + 1 * (y 1).val = _; omega

theorem emb4 (t : Fin cfg0.N) (y : S24576x2816.Idx) : (win0_4.blk t).view.emb y = y := by
  refine funext fun a => Fin.ext ?_
  match a with
  | ⟨0, _⟩ => show win0_4.index t 0 * 24576 + 1 * (y 0).val = (y 0).val; rw [index4]; show 0 * 24576 + 1 * (y 0).val = _; omega
  | ⟨1, _⟩ => show win0_4.index t 1 * 2816 + 1 * (y 1).val = (y 1).val; rw [index4]; show 0 * 2816 + 1 * (y 1).val = _; omega

theorem emb5 (t : Fin cfg0.N) (y : S24576x1.Idx) : (win0_5.blk t).view.emb y = y := by
  refine funext fun a => Fin.ext ?_
  match a with
  | ⟨0, _⟩ => show win0_5.index t 0 * 24576 + 1 * (y 0).val = (y 0).val; rw [index5]; show 0 * 24576 + 1 * (y 0).val = _; omega
  | ⟨1, _⟩ => show win0_5.index t 1 * 1 + 1 * (y 1).val = (y 1).val; rw [index5]; show 0 * 1 + 1 * (y 1).val = _; omega

/-! ## What the blocks that a point loads hold -/

/-- The activations are loaded whole, -/
theorem loaded_acts (c : Dev nD) (t : Fin cfg0.N) : iblk m c 0 t = acts m c := by
  funext y
  show V m c main_v0 ((win0_0.blk t).view.emb y) = _
  rw [emb0]
  exact congrFun (V_acts m c) _

/-- and so are the weights -/
theorem loaded_weights (c : Dev nD) (t : Fin cfg0.N) : iblk m c 1 t = m ((c : Thread nD τ).loc main_arg1) := by
  funext y
  show V m c main_arg1 ((win0_1.blk t).view.emb y) = _
  rw [emb1]
  exact congrFun (V_main_arg1 m c) _

/-- and their scales. -/
theorem loaded_scales (c : Dev nD) (t : Fin cfg0.N) : iblk m c 2 t = m ((c : Thread nD τ).loc main_arg2) := by
  funext y
  show V m c main_arg2 ((win0_2.blk t).view.emb y) = _
  rw [emb2]
  exact congrFun (V_main_arg2 m c) _

/-! ## The result arrays -/

/-- The products. -/
def products (c : Dev nD) : Buf (Elt Ideal) ((c : Thread nD τ).loc main_v1_0) :=
  fun i : S24576x1792.Idx => entry (m ((c : Thread nD τ).loc main_arg1)) (m ((c : Thread nD τ).loc main_arg2)) (row m c (i 0)) (i 1)

/-- The codes. -/
def codes (c : Dev nD) : Buf (Elt Ideal) ((c : Thread nD τ).loc main_v1_1) :=
  fun i : S24576x2816.Idx => code (row m c (i 0)) (i 1)

/-- The scales. -/
def scales (c : Dev nD) : Buf (Elt Ideal) ((c : Thread nD τ).loc main_v1_2) :=
  fun i : S24576x1.Idx => scale (row m c (i 0))

theorem final_products (c : Dev nD) : (dats m 0 c).arrAt 3 cfg0.N = products m c := by
  refine (dats m 0 c).arrAt_eq_of_covers 3 _ (by decide +kernel) fun t _ y => ?_
  show (dats m 0 c).after 3 t y = products m c ((win0_3.blk t).view.emb y)
  rw [after0_3, emb3, loaded_acts, loaded_weights, loaded_scales]
  obtain ⟨r, k, rfl⟩ : ∃ (r : Fin 24576) (k : Fin 1792), y = ix2 r k := ⟨_, _, ValueIdx.eq_ix2 (n0 := 24576) (n1 := 1792) y⟩
  exact out3_apply _ _ _ r k

theorem final_codes (c : Dev nD) : (dats m 0 c).arrAt 4 cfg0.N = codes m c := by
  refine (dats m 0 c).arrAt_eq_of_covers 4 _ (by decide +kernel) fun t _ y => ?_
  show (dats m 0 c).after 4 t y = codes m c ((win0_4.blk t).view.emb y)
  rw [after0_4, emb4, loaded_acts, loaded_weights, loaded_scales]
  obtain ⟨r, k, rfl⟩ : ∃ (r : Fin 24576) (k : Fin 2816), y = ix2 r k := ⟨_, _, ValueIdx.eq_ix2 (n0 := 24576) (n1 := 2816) y⟩
  exact out4_apply _ _ _ r k

theorem final_scales (c : Dev nD) : (dats m 0 c).arrAt 5 cfg0.N = scales m c := by
  refine (dats m 0 c).arrAt_eq_of_covers 5 _ (by decide +kernel) fun t _ y => ?_
  show (dats m 0 c).after 5 t y = scales m c ((win0_5.blk t).view.emb y)
  rw [after0_5, emb5, loaded_acts, loaded_weights, loaded_scales]
  obtain ⟨r, k, rfl⟩ : ∃ (r : Fin 24576) (k : Fin 1), y = ix2 r k := ⟨_, _, ValueIdx.eq_ix2 (n0 := 24576) (n1 := 1) y⟩
  obtain rfl : k = 0 := Subsingleton.elim _ _
  exact out5_apply _ _ _ r

end Cert.Gated.RefArray

end
-- ==== Proof.Range.lean ====
/-
  THE PRECONDITION, read at an index: the magnitude of every activation is at most the largest bfloat16 or infinite, so
  every row of activations fits.
-/
module

public import proofs.«01_k».proof.Pre_bfloat16_range
public import proofs.«01_k».proof.Proof.Row
public import Idealize.ShloMosaic.Lib.ReduceAll

@[expose] public section

noncomputable section

namespace Cert.Gated.Range

open Cert.Pre_bfloat16_range Cert.Gated
open Idealize.ShloMosaic hiding ix1 ix2 ix3
open Idealize.ShloMosaic.ValueIdx

/-- The side conditions that the predicate states. -/
theorem facts : Cert.Pre_bfloat16_range.Facts where
  bitsLt_bf16_f32 := by decide
  bcast_S_S6x4096x2816 := by decide
  reducesTo_S6x4096x2816_S_d0_1_2 := by decide
  h_S_ := by decide

attribute [local instance] facts

/-- What the predicate says of one activation. -/
def test (v : EReal) : BitVec 1 :=
  IntOp.ori (Ideal.cmp .ole (max v (-v)) (Ideal.ofBits .f32 0x7F7F0000#32)) (Ideal.cmp .oeq (max v (-v)) (Ideal.ofBits .f32 0x7F800000#32))

theorem test_one (v : EReal) (h : test v = 1#1) : max v (-v) ≤ Ideal.ofBits .f32 0x7F7F0000#32 ∨ max v (-v) = ⊤ := by
  unfold test at h
  rw [bits_inf] at h
  generalize max v (-v) = a at h
  generalize Ideal.ofBits .f32 0x7F7F0000#32 = b at h
  by_cases h1 : a ≤ b
  · exact .inl h1
  · by_cases h2 : a = ⊤
    · exact .inr h2
    · exfalso
      simp [Ideal.cmp, IntOp.ori, h1, h2] at h

instance : Subsingleton S_.Idx := ⟨fun a b => funext fun i => i.elim0⟩

theorem in_range (x : FVec Ideal S6x4096x2816 .bf16) (w : FVec Ideal S2x1792x2816 .fp8e4m3) (s : FVec Ideal S2x1792 .f32)
    (h : fn x w s = fun _ => 1#1) (i : S6x4096x2816.Idx) :
    max (x i) (-(x i)) ≤ Ideal.ofBits .f32 0x7F7F0000#32 ∨ max (x i) (-(x i)) = ⊤ := by
  refine test_one (x i) ?_
  have e : fn x w s (fun a => a.elim0) = 1#1 := congrFun h _
  unfold fn at e
  exact Host.reduce_andi_all _ _ _ _ _ e i

end Cert.Gated.Range

end
-- ==== Proof.Equation.lean ====
/-
  THE EQUATION. From memories that agree on the arguments, under the precondition, each result array of the kernel is the
  same function of the arguments as the reference's.
-/
module

public import proofs.«01_k».proof.Defs
public import proofs.«01_k».proof.Proof.KernelArray
public import proofs.«01_k».proof.Proof.RefArray
public import proofs.«01_k».proof.Proof.Range

@[expose] public section

noncomputable section

namespace Cert.Gated.Equation

open Cert.Gated Idealize.ShloMosaic Idealize.ShloMosaic.TcCoe Idealize.SL.Sem

attribute [local instance] Cert.KernelIdeal.Gen.facts Cert.ReferenceIdeal.Gen.facts Range.facts

/-- Under the precondition every row of activations fits. -/
theorem fits (m : (ℓ : Loc Cert.KernelIdeal.nD Cert.KernelIdeal.τ Cert.KernelIdeal.sig) → Buf (Elt Ideal) ℓ)
    (h : Cert.Pre_KernelIdeal_bfloat16_range m) (c : Dev Cert.KernelIdeal.nD) (i : Fin 24576) : Fits (KernelArray.row m c i) :=
  fits_of_le _ fun _ => Range.in_range _ _ _ (h c) _

/-- The equation at the idealised reading. -/
theorem algebraic : Cert.algebraic_KernelIdeal_ReferenceIdeal_pre_bfloat16_range := by
  intro m g m' g' hpre hargs
  refine ⟨KernelArray.products m, KernelArray.codes m, KernelArray.scales m, ?_, ?_⟩
  · refine (θ_run _ _ _).mono (fun r h c => ?_) (KernelRun.run m g)
    obtain ⟨h0, h1, h2, k0, k1, k2⟩ := h c
    exact ⟨h0.trans (KernelArray.final_products m c (fits m hpre c)), h1.trans (KernelArray.final_codes m c (fits m hpre c)),
      h2.trans (KernelArray.final_scales m c (fits m hpre c)), k0, k1, k2⟩
  · refine (θ_run _ _ _).mono (fun r h c => ?_) (RefRun.run m' g')
    obtain ⟨h0, h1, h2, k0, k1, k2⟩ := h c
    obtain ⟨e0, e1, e2⟩ := hargs c
    have ea : RefRun.acts m' c = KernelRun.acts m c := by
      unfold RefRun.acts KernelRun.acts
      rw [e0]
    have er : ∀ i, RefArray.row m' c i = KernelArray.row m c i := fun i => by
      unfold RefArray.row KernelArray.row
      rw [ea]
    refine ⟨h0.trans ((RefArray.final_products m' c).trans ?_), h1.trans ((RefArray.final_codes m' c).trans ?_),
      h2.trans ((RefArray.final_scales m' c).trans ?_), k0, k1, k2⟩
    · unfold RefArray.products KernelArray.products
      rw [e1, e2]
      exact funext fun i : Cert.KernelIdeal.S24576x1792.Idx => congrArg (fun a => KernelBlock.entry a _ _ (i 1)) (er (i 0))
    · exact funext fun i : Cert.KernelIdeal.S24576x2816.Idx => congrArg (fun a => code a (i 1)) (er (i 0))
    · exact funext fun i : Cert.KernelIdeal.S24576x1.Idx => congrArg scale (er (i 0))

end Cert.Gated.Equation

end
-- ==== Proof.lean ====
/-
  THE CERTIFICATE, assembled: the three frames from the generated modules, and the equation from `Proof/Equation.lean`.
-/
module

public import proofs.«01_k».proof.Defs
public import proofs.«01_k».proof.Proof.Gen.Kernel.Frame
public import proofs.«01_k».proof.Proof.Equation
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Gated.Range.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    Cert.Gated.Equation.algebraic⟩

end Cert.Proof

end
